-- ==== Defs.lean ====
def Pre_Kernel (m : (ℓ : Loc Cert.Kernel.nD Cert.Kernel.τ Cert.Kernel.sig) → Buf (Elt Bits) ℓ) : Prop :=
  True

def Pre_Kernel_separated [hPre_separated : Cert.Pre_separated.Facts] (m : (ℓ : Loc Cert.Kernel.nD Cert.Kernel.τ Cert.Kernel.sig) → Buf (Elt Bits) ℓ) : Prop :=
  ∀ c : Dev Cert.Kernel.nD,
    (Cert.Pre_separated.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_separated [hKernel : Cert.Kernel.Facts] [hPre_separated : Cert.Pre_separated.Facts] : Prop :=
  ∀ (m : (ℓ : Loc Cert.Kernel.nD Cert.Kernel.τ Cert.Kernel.sig) → Buf (Elt Bits) ℓ) (g : Dev Cert.Kernel.nD → PrngReg), Pre_Kernel_separated m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .bf16 0x4980#16 ⊤

def algebraic_KernelIdeal_ReferenceIdeal [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_Kernel_pre_separated (hKernel := hKernel) (hPre_separated := hPre_separated)
    ∧ quiescent_KernelIdeal (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal (hKernelIdeal := hKernelIdeal) (hReferenceIdeal := hReferenceIdeal) (hPre_separated := hPre_separated)
-- ==== Pre_separated.lean ====
abbrev S32768x256 : Shape := ⟨2, ![32768, 256]⟩
abbrev S64x128 : Shape := ⟨2, ![64, 128]⟩
abbrev S64x8x128 : Shape := ⟨3, ![64, 8, 128]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S128x64 : Shape := ⟨2, ![128, 64]⟩
abbrev S32768x64 : Shape := ⟨2, ![32768, 64]⟩
abbrev S64 : Shape := ⟨1, ![64]⟩
abbrev S1x64 : Shape := ⟨2, ![1, 64]⟩

class Facts : Prop where
  slices_S32768x256_S32768x128_0_0 : S32768x256.Slices ![0, 0] S32768x128
  reducesTo_S32768x128_S32768_d1 : S32768x128.ReducesTo [1] S32768
  h_S_ : 0 < S_.numel
  bcast_S32768_S32768x1_0 : S32768.BroadcastsInDim S32768x1 (![0] : Fin 1 → Fin S32768x1.rank)
  transposes_S64x128_S128x64_1_0 : S64x128.Transposes [1, 0] S128x64
  bcast_S_S32768x64 : S_.BroadcastsInDim S32768x64 (![] : Fin 0 → Fin S32768x64.rank)
  bcast_S32768x1_S32768x64_0_1 : S32768x1.BroadcastsInDim S32768x64 (![0, 1] : Fin 2 → Fin S32768x64.rank)
  reducesTo_S64x128_S64_d1 : S64x128.ReducesTo [1] S64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  natLt_1_32 : 1 < 32
  bcast_S_S32768 : S_.BroadcastsInDim S32768 (![] : Fin 0 → Fin S32768.rank)
  slices_S32768x256_S32768x128_0_128 : S32768x256.Slices ![0, 128] S32768x128
  bcast_S_S32768x128 : S_.BroadcastsInDim S32768x128 (![] : Fin 0 → Fin S32768x128.rank)
  reducesTo_S32768x128_S_d0_1 : S32768x128.ReducesTo [0, 1] S_
  bcast_S_S64x8x128 : S_.BroadcastsInDim S64x8x128 (![] : Fin 0 → Fin S64x8x128.rank)
  reducesTo_S64x8x128_S_d0_1_2 : S64x8x128.ReducesTo [0, 1, 2] S_
  reducesTo_S32768_S_d0 : S32768.ReducesTo [0] S_
  dot_S32768x128_S128x64_S32768x64_1_0_0_1_n_n_wf : DotDims.WF S32768x128 S128x64 S32768x64 [1] [0] [0] [1] [] []

variable [Facts]

def dot_S32768x128_S128x64_S32768x64_1_0_0_1_n_n : DotDims S32768x128 S128x64 S32768x64 where
  lhsContracting := [1]
  rhsContracting := [0]
  lhsNonContracting := [0]
  rhsNonContracting := [1]
  lhsBatch := []
  rhsBatch := []
  wf := dot_S32768x128_S128x64_S32768x64_1_0_0_1_n_n_wf
def fn_part1 {F : FTy → Type} [FloatOps F] (main_arg0 : FVec F S32768x256 .f32) (main_arg2 : FVec F S64x8x128 .f32) (main_v19 : IVec S32768x64 32) : IVec S_ 1 :=
  let main_c : IVec S_ 32 := constantI S_ 32 0#32
  let main_v20 : IVec S32768 32 := (fun x v => Host.reduce IntOp.addi x v reducesTo_S32768x64_S32768_d1 h_S_) main_v19 main_c
  let main_c_3 : IVec S_ 32 := constantI S_ 32 1#32
  let main_v21 : IVec S32768 32 := broadcastInDim S32768 ![] bcast_S_S32768 main_c_3
  let main_v22 : IVec S32768 1 := cmpi .eq main_v20 main_v21
  let main_v23 : FVec F S32768x128 .f32 := (extractStridedSlice S32768x128 ![0, 128] · slices_S32768x256_S32768x128_0_128) main_arg0
  let main_v24 : FVec F S32768x128 .f32 := Host.absf main_v23
  let main_cst_4 : FVec F S_ .f32 := constant S_ .f32 0x7F800000#32
  let main_v25 : FVec F S32768x128 .f32 := broadcastInDim S32768x128 ![] bcast_S_S32768x128 main_cst_4
  let main_v26 : IVec S32768x128 1 := cmpf .olt main_v24 main_v25
  let main_c_5 : IVec S_ 1 := constantI S_ 1 1#1
  let main_v27 : IVec S_ 1 := (fun x v => Host.reduce IntOp.andi x v reducesTo_S32768x128_S_d0_1 h_S_) main_v26 main_c_5
  let main_v28 : FVec F S64x8x128 .f32 := Host.absf main_arg2
  let main_cst_6 : FVec F S_ .f32 := constant S_ .f32 0x7F800000#32
  let main_v29 : FVec F S64x8x128 .f32 := broadcastInDim S64x8x128 ![] bcast_S_S64x8x128 main_cst_6
  let main_v30 : IVec S64x8x128 1 := cmpf .olt main_v28 main_v29
  let main_c_7 : IVec S_ 1 := constantI S_ 1 1#1
  let main_v31 : IVec S_ 1 := (fun x v => Host.reduce IntOp.andi x v reducesTo_S64x8x128_S_d0_1_2 h_S_) main_v30 main_c_7
  let main_v32 : IVec S_ 1 := andi main_v27 main_v31
  let main_c_8 : IVec S_ 1 := constantI S_ 1 1#1
  let main_v33 : IVec S_ 1 := (fun x v => Host.reduce IntOp.andi x v reducesTo_S32768_S_d0 h_S_) main_v22 main_c_8
  let main_v34 : IVec S_ 1 := andi main_v33 main_v32
  main_v34

def fn {F : FTy → Type} [FloatOps F] (main_arg0 : FVec F S32768x256 .f32) (main_arg1 : FVec F S64x128 .f32) (main_arg2 : FVec F S64x8x128 .f32) : IVec S_ 1 :=
  let main_v0 : FVec F S32768x128 .f32 := (extractStridedSlice S32768x128 ![0, 0] · slices_S32768x256_S32768x128_0_0) main_arg0
  let main_v1 : FVec F S32768x128 .f32 := mulf main_v0 main_v0
  let main_cst : FVec F S_ .f32 := constant S_ .f32 0x00000000#32
  let main_v2 : FVec F S32768 .f32 := (fun x v => Host.reduceAdd x v reducesTo_S32768x128_S32768_d1 h_S_) main_v1 main_cst
  let main_v3 : FVec F S32768x1 .f32 := broadcastInDim S32768x1 ![0] bcast_S32768_S32768x1_0 main_v2
  let main_v4 : FVec F S128x64 .f32 := (transpose S128x64 [1, 0] · transposes_S64x128_S128x64_1_0) main_arg1
  let main_v5 : FVec F S32768x64 .f32 := (fun l r => Host.dotGeneral dot_S32768x128_S128x64_S32768x64_1_0_0_1_n_n none l r) main_v0 main_v4
  let main_cst_0 : FVec F S_ .f32 := constant S_ .f32 0x40000000#32
  let main_v6 : FVec F S32768x64 .f32 := broadcastInDim S32768x64 ![] bcast_S_S32768x64 main_cst_0
  let main_v7 : FVec F S32768x64 .f32 := mulf main_v6 main_v5
  let main_v8 : FVec F S32768x64 .f32 := broadcastInDim S32768x64 ![0, 1] bcast_S32768x1_S32768x64_0_1 main_v3
  let main_v9 : FVec F S32768x64 .f32 := subf main_v8 main_v7
  let main_v10 : FVec F S64x128 .f32 := mulf main_arg1 main_arg1
  let main_cst_1 : FVec F S_ .f32 := constant S_ .f32 0x00000000#32
  let main_v11 : FVec F S64 .f32 := (fun x v => Host.reduceAdd x v reducesTo_S64x128_S64_d1 h_S_) main_v10 main_cst_1
  let main_v12 : FVec F S1x64 .f32 := broadcastInDim S1x64 ![1] bcast_S64_S1x64_1 main_v11
  let main_v13 : FVec F S32768x64 .f32 := broadcastInDim S32768x64 ![0, 1] bcast_S1x64_S32768x64_0_1 main_v12
  let main_v14 : FVec F S32768x64 .f32 := addf main_v9 main_v13
  let main_cst_2 : FVec F S_ .f32 := constant S_ .f32 0x7F800000#32
  let main_v15 : FVec F S32768 .f32 := (fun x v => Host.reduce FloatOps.minimumf x v reducesTo_S32768x64_S32768_d1 h_S_) main_v14 main_cst_2
  let main_v16 : FVec F S32768x1 .f32 := broadcastInDim S32768x1 ![0] bcast_S32768_S32768x1_0 main_v15
  let main_v17 : FVec F S32768x64 .f32 := broadcastInDim S32768x64 ![0, 1] bcast_S32768x1_S32768x64_0_1 main_v16
  let main_v18 : IVec S32768x64 1 := cmpf .oeq main_v14 main_v17
  let main_v19 : IVec S32768x64 32 := (extui 32 · natLt_1_32) main_v18
  fn_part1 (F := F) main_arg0 main_arg2 main_v19
-- ==== Kernel.lean ====
abbrev S32768x256 : Shape := ⟨2, ![32768, 256]⟩
abbrev S64x128 : Shape := ⟨2, ![64, 128]⟩
abbrev S64x8x128 : Shape := ⟨3, ![64, 8, 128]⟩
abbrev S512x128 : Shape := ⟨2, ![512, 128]⟩
abbrev S_ : Shape := ⟨0, ![]⟩
abbrev S64 : Shape := ⟨1, ![64]⟩
abbrev S64x1 : Shape := ⟨2, ![64, 1]⟩
abbrev S512 : Shape := ⟨1, ![512]⟩
abbrev S512x1 : Shape := ⟨2, ![512, 1]⟩
abbrev S8x1x4096 : Shape := ⟨3, ![8, 1, 4096]⟩
abbrev S2x4096x256 : Shape := ⟨3, ![2, 4096, 256]⟩
abbrev S2 : Shape := ⟨1, ![2]⟩
abbrev S2x1x1x4096 : Shape := ⟨4, ![2, 1, 1, 4096]⟩
abbrev S1 : Shape := ⟨1, ![1]⟩
abbrev S1x4096x256 : Shape := ⟨3, ![1, 4096, 256]⟩
abbrev S4096x256 : Shape := ⟨2, ![4096, 256]⟩
abbrev S4096x128 : Shape := ⟨2, ![4096, 128]⟩
abbrev S1x128 : Shape := ⟨2, ![1, 128]⟩
abbrev S1x4096 : Shape := ⟨2, ![1, 4096]⟩
abbrev S64x4096 : Shape := ⟨2, ![64, 4096]⟩
abbrev S4096 : Shape := ⟨1, ![4096]⟩
abbrev S512x4096 : Shape := ⟨2, ![512, 4096]⟩
abbrev S1x1x1x4096 : Shape := ⟨4, ![1, 1, 1, 4096]⟩
abbrev S1x1x4096 : Shape := ⟨3, ![1, 1, 4096]⟩
abbrev S32768 : Shape := ⟨1, ![32768]⟩

abbrev nBuf : Space → Nat
  | .hbm => 19
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S64x128, .f32⟩
  | .hbm, ⟨2, _⟩ => ⟨S64x8x128, .f32⟩
  | .hbm, ⟨3, _⟩ => ⟨S512x128, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S512x128, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .bf16⟩
  | .hbm, ⟨15, _⟩ => ⟨S512x1, .f32⟩
  | .hbm, ⟨16, _⟩ => ⟨S512x1, .bf16⟩
  | .hbm, ⟨17, _⟩ => ⟨S8x1x4096, .i32⟩
  | .hbm, ⟨18, _⟩ => ⟨S32768, .i32⟩
  | .local _ .vmem, ⟨0, _⟩ => ⟨S64x128, .f32⟩
  | .local _ .vmem, ⟨1, _⟩ => ⟨S64x1, .f32⟩
  | .local _ .vmem, ⟨2, _⟩ => ⟨S512x128, .bf16⟩
  | .local _ .vmem, ⟨3, _⟩ => ⟨S512x1, .bf16⟩
  | .local _ .vmem, ⟨4, _⟩ => ⟨S2x4096x256, .f32⟩
  | .local _ .vmem, ⟨5, _⟩ => ⟨S2x1x1x4096, .i32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_12_r0 : BitVec 32 := 0#32
  let c2_i32_r0 : BitVec 32 := 2#32
  let v15_r0 : BitVec 32 := Scalar.remui c0_i32_12_r0 c2_i32_r0
  ![v15_r0.toNat]
def k0_off2 : Fin 3 → Nat :=
  let c0_i32_12_r0 : BitVec 32 := 0#32
  let c2_i32_r0 : BitVec 32 := 2#32
  let v15_r0 : BitVec 32 := Scalar.remui c0_i32_12_r0 c2_i32_r0
  let c0_i32_13_r0 : BitVec 32 := 0#32
  let c0_i32_14_r0 : BitVec 32 := 0#32
  ![v15_r0.toNat, 0, 0]
@[reducible] def k0_t1_loop : Scf.Loop 32 :=
  let c0_i32_23_r0 : BitVec 32 := 0#32
  let c8_i32_24_r0 : BitVec 32 := 8#32
  let v22_r0 : BitVec 32 := Scalar.addi c0_i32_23_r0 c8_i32_24_r0
  let c1_i32_25_r0 : BitVec 32 := 1#32
  ⟨c0_i32_23_r0, v22_r0, c1_i32_25_r0⟩
def k0_off3 (arg7_r0 : BitVec 32) : Fin 1 → Nat :=
  let c2_i32_127_r0 : BitVec 32 := 2#32
  let v191_r0 : BitVec 32 := Scalar.remui arg7_r0 c2_i32_127_r0
  ![v191_r0.toNat]
def k0_cond1 (k0_t1 : Fin k0_t1_loop.trips) (arg11_r0 : BitVec 32) : BitVec 1 :=
  let c0_i32_56_r0 : BitVec 32 := 0#32
  let v53_r0 : BitVec 32 := Scalar.addi arg11_r0 c0_i32_56_r0
  let true_63_r0 : BitVec 1 := 1#1
  let c1_i32_62_r0 : BitVec 32 := 1#32
  let v59_r0 : BitVec 32 := Scalar.addi arg11_r0 c1_i32_62_r0
  let v60_r0 : BitVec 32 := Scalar.select true_63_r0 v59_r0 arg11_r0
  let c8_i32_64_r0 : BitVec 32 := 8#32
  let v61_r0 : BitVec 1 := Scalar.cmpi .eq v60_r0 c8_i32_64_r0
  let c0_i32_65_r0 : BitVec 32 := 0#32
  let v62_r0 : BitVec 32 := Scalar.select v61_r0 c0_i32_65_r0 v60_r0
  let c0_i32_66_r0 : BitVec 32 := 0#32
  let v63_r0 : BitVec 32 := Scalar.addi v62_r0 c0_i32_66_r0
  let v69_r0 : BitVec 1 := Scalar.cmpi .ne v53_r0 v63_r0
  let c0_i32_23_r0 : BitVec 32 := 0#32
  let c1_i32_25_r0 : BitVec 32 := 1#32
  let arg6_r0 : BitVec 32 := Scf.iv c0_i32_23_r0 c1_i32_25_r0 k0_t1
  let c7_i32_72_r0 : BitVec 32 := 7#32
  let v70_r0 : BitVec 1 := Scalar.cmpi .sge arg6_r0 c7_i32_72_r0
  let true_73_r0 : BitVec 1 := 1#1
  let v71_r0 : BitVec 1 := Scalar.xori v70_r0 true_73_r0
  let v72_r0 : BitVec 1 := Scalar.andi v69_r0 v71_r0
  let true_74_r0 : BitVec 1 := 1#1
  let v73_r0 : BitVec 1 := Scalar.andi v72_r0 true_74_r0
  let v74_r0 : BitVec 32 := Scalar.extui v73_r0
  let c0_i32_75_r0 : BitVec 32 := 0#32
  let v75_r0 : BitVec 1 := Scalar.cmpi .ne v74_r0 c0_i32_75_r0
  v75_r0

def k0_off4 (arg7_r0 : BitVec 32) : Fin 3 → Nat :=
  let c2_i32_127_r0 : BitVec 32 := 2#32
  let v191_r0 : BitVec 32 := Scalar.remui arg7_r0 c2_i32_127_r0
  let c0_i32_128_r0 : BitVec 32 := 0#32
  let c0_i32_129_r0 : BitVec 32 := 0#32
  ![v191_r0.toNat, 0, 0]
def k0_off5 (arg11_r0 : BitVec 32) : Fin 2 → Nat :=
  let c4096_i32_r0 : BitVec 32 := 4096#32
  let true_63_r0 : BitVec 1 := 1#1
  let c1_i32_62_r0 : BitVec 32 := 1#32
  let v59_r0 : BitVec 32 := Scalar.addi arg11_r0 c1_i32_62_r0
  let v60_r0 : BitVec 32 := Scalar.select true_63_r0 v59_r0 arg11_r0
  let c8_i32_64_r0 : BitVec 32 := 8#32
  let v61_r0 : BitVec 1 := Scalar.cmpi .eq v60_r0 c8_i32_64_r0
  let c0_i32_65_r0 : BitVec 32 := 0#32
  let v62_r0 : BitVec 32 := Scalar.select v61_r0 c0_i32_65_r0 v60_r0
  let c0_i32_66_r0 : BitVec 32 := 0#32
  let v63_r0 : BitVec 32 := Scalar.addi v62_r0 c0_i32_66_r0
  let v192_r0 : BitVec 32 := Scalar.muli c4096_i32_r0 v63_r0
  let c0_i32_130_r0 : BitVec 32 := 0#32
  ![v192_r0.toNat, 0]
def k0_off6 (arg8_r0 : BitVec 32) : Fin 1 → Nat :=
  let c2_i32_127_r0 : BitVec 32 := 2#32
  let v192_r0 : BitVec 32 := Scalar.remui arg8_r0 c2_i32_127_r0
  ![v192_r0.toNat]
def k0_cond2 (k0_t1 : Fin k0_t1_loop.trips) (arg11_r0 : BitVec 32) : BitVec 1 :=
  let c0_i32_56_r0 : BitVec 32 := 0#32
  let v53_r0 : BitVec 32 := Scalar.addi arg11_r0 c0_i32_56_r0
  let true_58_r0 : BitVec 1 := 1#1
  let c1_i32_57_r0 : BitVec 32 := 1#32
  let v54_r0 : BitVec 32 := Scalar.subi arg11_r0 c1_i32_57_r0
  let v55_r0 : BitVec 32 := Scalar.select true_58_r0 v54_r0 arg11_r0
  let c_m1_i32_59_r0 : BitVec 32 := 4294967295#32
  let v56_r0 : BitVec 1 := Scalar.cmpi .eq v55_r0 c_m1_i32_59_r0
  let c7_i32_60_r0 : BitVec 32 := 7#32
  let v57_r0 : BitVec 32 := Scalar.select v56_r0 c7_i32_60_r0 v55_r0
  let c0_i32_61_r0 : BitVec 32 := 0#32
  let v58_r0 : BitVec 32 := Scalar.addi v57_r0 c0_i32_61_r0
  let v83_r0 : BitVec 1 := Scalar.cmpi .ne v53_r0 v58_r0
  let c0_i32_23_r0 : BitVec 32 := 0#32
  let c1_i32_25_r0 : BitVec 32 := 1#32
  let arg6_r0 : BitVec 32 := Scf.iv c0_i32_23_r0 c1_i32_25_r0 k0_t1
  let c0_i32_54_r0 : BitVec 32 := 0#32
  let v51_r0 : BitVec 1 := Scalar.cmpi .eq arg6_r0 c0_i32_54_r0
  let v84_r0 : BitVec 1 := Scalar.ori v83_r0 v51_r0
  let c0_i32_80_r0 : BitVec 32 := 0#32
  let v85_r0 : BitVec 1 := Scalar.cmpi .sge arg6_r0 c0_i32_80_r0
  let v86_r0 : BitVec 1 := Scalar.andi v84_r0 v85_r0
  let v87_r0 : BitVec 32 := Scalar.extui v86_r0
  let c0_i32_81_r0 : BitVec 32 := 0#32
  let v88_r0 : BitVec 1 := Scalar.cmpi .ne v87_r0 c0_i32_81_r0
  v88_r0

def k0_off7 (arg8_r0 : BitVec 32) : Fin 3 → Nat :=
  let c2_i32_127_r0 : BitVec 32 := 2#32
  let v192_r0 : BitVec 32 := Scalar.remui arg8_r0 c2_i32_127_r0
  let c0_i32_128_r0 : BitVec 32 := 0#32
  let c0_i32_129_r0 : BitVec 32 := 0#32
  ![v192_r0.toNat, 0, 0]
def k0_off8 (arg11_r0 : BitVec 32) : Fin 2 → Nat :=
  let c4096_i32_r0 : BitVec 32 := 4096#32
  let c0_i32_56_r0 : BitVec 32 := 0#32
  let v53_r0 : BitVec 32 := Scalar.addi arg11_r0 c0_i32_56_r0
  let v191_r0 : BitVec 32 := Scalar.muli c4096_i32_r0 v53_r0
  let c0_i32_130_r0 : BitVec 32 := 0#32
  ![v191_r0.toNat, 0]
def k0_off9 (arg8_r0 : BitVec 32) : Fin 3 → Nat :=
  let c2_i32_84_r0 : BitVec 32 := 2#32
  let v95_r0 : BitVec 32 := Scalar.remui arg8_r0 c2_i32_84_r0
  let v97_r0 : Index := Scalar.indexCast v95_r0
  let c0_r0 : Index := 0#32
  let c0_86_r0 : Index := 0#32
  ![v97_r0.toNat, 0, 0]

def k0_chk2 (arg8_r0 : BitVec 32) : Prop :=
  (∀ a, (k0_off9 arg8_r0) a + S1x4096x256.size a ≤ S2x4096x256.size a)
theorem k0_off9_inb : ∀ (arg8_r0 : BitVec 32) (k0_hw2 : k0_chk2 arg8_r0), ∀ a, (k0_off9 arg8_r0) a + S1x4096x256.size a ≤ S2x4096x256.size a := fun arg8_r0 k0_hw2 => k0_hw2

def k0_off10 (arg9_r0 : BitVec 32) : Fin 4 → Nat :=
  let c2_i32_85_r0 : BitVec 32 := 2#32
  let v96_r0 : BitVec 32 := Scalar.remui arg9_r0 c2_i32_85_r0
  let c0_i32_105_r0 : BitVec 32 := 0#32
  let c0_i32_106_r0 : BitVec 32 := 0#32
  let c0_i32_107_r0 : BitVec 32 := 0#32
  ![v96_r0.toNat, 0, 0, 0]

def k0_chk3 (arg9_r0 : BitVec 32) : Prop :=
  (∀ a, (k0_off10 arg9_r0) a + S1x1x1x4096.size a ≤ S2x1x1x4096.size a)
theorem k0_off10_inb : ∀ (arg9_r0 : BitVec 32) (k0_hw3 : k0_chk3 arg9_r0), ∀ a, (k0_off10 arg9_r0) a + S1x1x1x4096.size a ≤ S2x1x1x4096.size a := fun arg9_r0 k0_hw3 => k0_hw3

def k0_off11 (arg9_r0 : BitVec 32) : Fin 1 → Nat :=
  let c2_i32_127_r0 : BitVec 32 := 2#32
  let v191_r0 : BitVec 32 := Scalar.remui arg9_r0 c2_i32_127_r0
  ![v191_r0.toNat]
def k0_cond5 (k0_t1 : Fin k0_t1_loop.trips) (arg11_r0 : BitVec 32) : BitVec 1 :=
  let c0_i32_56_r0 : BitVec 32 := 0#32
  let v53_r0 : BitVec 32 := Scalar.addi arg11_r0 c0_i32_56_r0
  let true_63_r0 : BitVec 1 := 1#1
  let c1_i32_62_r0 : BitVec 32 := 1#32
  let v59_r0 : BitVec 32 := Scalar.addi arg11_r0 c1_i32_62_r0
  let v60_r0 : BitVec 32 := Scalar.select true_63_r0 v59_r0 arg11_r0
  let c8_i32_64_r0 : BitVec 32 := 8#32
  let v61_r0 : BitVec 1 := Scalar.cmpi .eq v60_r0 c8_i32_64_r0
  let c0_i32_65_r0 : BitVec 32 := 0#32
  let v62_r0 : BitVec 32 := Scalar.select v61_r0 c0_i32_65_r0 v60_r0
  let c0_i32_66_r0 : BitVec 32 := 0#32
  let v63_r0 : BitVec 32 := Scalar.addi v62_r0 c0_i32_66_r0
  let v162_r0 : BitVec 1 := Scalar.cmpi .ne v53_r0 v63_r0
  let c0_i32_23_r0 : BitVec 32 := 0#32
  let c1_i32_25_r0 : BitVec 32 := 1#32
  let arg6_r0 : BitVec 32 := Scf.iv c0_i32_23_r0 c1_i32_25_r0 k0_t1
  let c7_i32_55_r0 : BitVec 32 := 7#32
  let v52_r0 : BitVec 1 := Scalar.cmpi .eq arg6_r0 c7_i32_55_r0
  let v163_r0 : BitVec 1 := Scalar.ori v162_r0 v52_r0
  let v164_r0 : BitVec 32 := Scalar.extui v163_r0
  let c0_i32_112_r0 : BitVec 32 := 0#32
  let v165_r0 : BitVec 1 := Scalar.cmpi .ne v164_r0 c0_i32_112_r0
  v165_r0

def k0_off12 (arg11_r0 : BitVec 32) : Fin 3 → Nat :=
  let c1_i32_128_r0 : BitVec 32 := 1#32
  let c0_i32_56_r0 : BitVec 32 := 0#32
  let v53_r0 : BitVec 32 := Scalar.addi arg11_r0 c0_i32_56_r0
  let v192_r0 : BitVec 32 := Scalar.muli c1_i32_128_r0 v53_r0
  let c0_i32_129_r0 : BitVec 32 := 0#32
  let c0_i32_130_r0 : BitVec 32 := 0#32
  ![v192_r0.toNat, 0, 0]
def k0_off13 (arg9_r0 : BitVec 32) : Fin 4 → Nat :=
  let c2_i32_127_r0 : BitVec 32 := 2#32
  let v191_r0 : BitVec 32 := Scalar.remui arg9_r0 c2_i32_127_r0
  let c0_i32_131_r0 : BitVec 32 := 0#32
  let c0_i32_132_r0 : BitVec 32 := 0#32
  let c0_i32_133_r0 : BitVec 32 := 0#32
  ![v191_r0.toNat, 0, 0, 0]
def k0_off14 (arg10_r0 : BitVec 32) : Fin 1 → Nat :=
  let c2_i32_127_r0 : BitVec 32 := 2#32
  let v191_r0 : BitVec 32 := Scalar.remui arg10_r0 c2_i32_127_r0
  ![v191_r0.toNat]
def k0_cond7 (k0_t1 : Fin k0_t1_loop.trips) (arg11_r0 : BitVec 32) : BitVec 1 :=
  let c0_i32_56_r0 : BitVec 32 := 0#32
  let v53_r0 : BitVec 32 := Scalar.addi arg11_r0 c0_i32_56_r0
  let true_58_r0 : BitVec 1 := 1#1
  let c1_i32_57_r0 : BitVec 32 := 1#32
  let v54_r0 : BitVec 32 := Scalar.subi arg11_r0 c1_i32_57_r0
  let v55_r0 : BitVec 32 := Scalar.select true_58_r0 v54_r0 arg11_r0
  let c_m1_i32_59_r0 : BitVec 32 := 4294967295#32
  let v56_r0 : BitVec 1 := Scalar.cmpi .eq v55_r0 c_m1_i32_59_r0
  let c7_i32_60_r0 : BitVec 32 := 7#32
  let v57_r0 : BitVec 32 := Scalar.select v56_r0 c7_i32_60_r0 v55_r0
  let c0_i32_61_r0 : BitVec 32 := 0#32
  let v58_r0 : BitVec 32 := Scalar.addi v57_r0 c0_i32_61_r0
  let v175_r0 : BitVec 1 := Scalar.cmpi .ne v53_r0 v58_r0
  let c0_i32_23_r0 : BitVec 32 := 0#32
  let c1_i32_25_r0 : BitVec 32 := 1#32
  let arg6_r0 : BitVec 32 := Scf.iv c0_i32_23_r0 c1_i32_25_r0 k0_t1
  let c0_i32_54_r0 : BitVec 32 := 0#32
  let v51_r0 : BitVec 1 := Scalar.cmpi .eq arg6_r0 c0_i32_54_r0
  let true_118_r0 : BitVec 1 := 1#1
  let v176_r0 : BitVec 1 := Scalar.xori v51_r0 true_118_r0
  let v177_r0 : BitVec 1 := Scalar.andi v175_r0 v176_r0
  let v178_r0 : BitVec 32 := Scalar.extui v177_r0
  let c0_i32_119_r0 : BitVec 32 := 0#32
  let v179_r0 : BitVec 1 := Scalar.cmpi .ne v178_r0 c0_i32_119_r0
  v179_r0

def k0_off15 (arg11_r0 : BitVec 32) : Fin 3 → Nat :=
  let c1_i32_128_r0 : BitVec 32 := 1#32
  let true_58_r0 : BitVec 1 := 1#1
  let c1_i32_57_r0 : BitVec 32 := 1#32
  let v54_r0 : BitVec 32 := Scalar.subi arg11_r0 c1_i32_57_r0
  let v55_r0 : BitVec 32 := Scalar.select true_58_r0 v54_r0 arg11_r0
  let c_m1_i32_59_r0 : BitVec 32 := 4294967295#32
  let v56_r0 : BitVec 1 := Scalar.cmpi .eq v55_r0 c_m1_i32_59_r0
  let c7_i32_60_r0 : BitVec 32 := 7#32
  let v57_r0 : BitVec 32 := Scalar.select v56_r0 c7_i32_60_r0 v55_r0
  let c0_i32_61_r0 : BitVec 32 := 0#32
  let v58_r0 : BitVec 32 := Scalar.addi v57_r0 c0_i32_61_r0
  let v192_r0 : BitVec 32 := Scalar.muli c1_i32_128_r0 v58_r0
  let c0_i32_129_r0 : BitVec 32 := 0#32
  let c0_i32_130_r0 : BitVec 32 := 0#32
  ![v192_r0.toNat, 0, 0]
def k0_off16 (arg10_r0 : BitVec 32) : Fin 4 → Nat :=
  let c2_i32_127_r0 : BitVec 32 := 2#32
  let v191_r0 : BitVec 32 := Scalar.remui arg10_r0 c2_i32_127_r0
  let c0_i32_131_r0 : BitVec 32 := 0#32
  let c0_i32_132_r0 : BitVec 32 := 0#32
  let c0_i32_133_r0 : BitVec 32 := 0#32
  ![v191_r0.toNat, 0, 0, 0]

def k0_chk1 (k0_t1 : Fin k0_t1_loop.trips) (arg7_r0 : BitVec 32) (arg8_r0 : BitVec 32) (arg9_r0 : BitVec 32) (arg10_r0 : BitVec 32) (arg11_r0 : BitVec 32) : Prop :=
  (∀ (k0_h1 : k0_cond1 k0_t1 arg11_r0 = 1#1), ∀ a, (k0_off3 arg7_r0) a + S1.size a ≤ S2.size a) ∧
  (∀ (k0_h1 : k0_cond1 k0_t1 arg11_r0 = 1#1), ∀ a, (k0_off4 arg7_r0) a + S1x4096x256.size a ≤ S2x4096x256.size a) ∧
  (∀ (k0_h1 : k0_cond1 k0_t1 arg11_r0 = 1#1), ∀ a, (k0_off5 arg11_r0) a + S4096x256.size a ≤ S32768x256.size a) ∧
  (∀ (k0_h2 : k0_cond2 k0_t1 arg11_r0 = 1#1), ∀ a, (k0_off6 arg8_r0) a + S1.size a ≤ S2.size a) ∧
  (∀ (k0_h2 : k0_cond2 k0_t1 arg11_r0 = 1#1), ∀ a, (k0_off7 arg8_r0) a + S1x4096x256.size a ≤ S2x4096x256.size a) ∧
  (∀ (k0_h2 : k0_cond2 k0_t1 arg11_r0 = 1#1), ∀ a, (k0_off8 arg11_r0) a + S4096x256.size a ≤ S32768x256.size a) ∧
  (∀ (k0_h5 : k0_cond5 k0_t1 arg11_r0 = 1#1), ∀ a, (k0_off11 arg9_r0) a + S1.size a ≤ S2.size a) ∧
  (∀ (k0_h5 : k0_cond5 k0_t1 arg11_r0 = 1#1), ∀ a, (k0_off12 arg11_r0) a + S1x1x4096.size a ≤ S8x1x4096.size a) ∧
  (∀ (k0_h5 : k0_cond5 k0_t1 arg11_r0 = 1#1), ∀ a, (k0_off13 arg9_r0) a + S1x1x1x4096.size a ≤ S2x1x1x4096.size a) ∧
  (∀ (k0_h7 : k0_cond7 k0_t1 arg11_r0 = 1#1), ∀ a, (k0_off14 arg10_r0) a + S1.size a ≤ S2.size a) ∧
  (∀ (k0_h7 : k0_cond7 k0_t1 arg11_r0 = 1#1), ∀ a, (k0_off15 arg11_r0) a + S1x1x4096.size a ≤ S8x1x4096.size a) ∧
  (∀ (k0_h7 : k0_cond7 k0_t1 arg11_r0 = 1#1), ∀ a, (k0_off16 arg10_r0) a + S1x1x1x4096.size a ≤ S2x1x1x4096.size a)
theorem k0_off3_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off3 arg7_r0) a + S1.size a ≤ S2.size a := fun k0_t1 arg7_r0 arg8_r0 arg9_r0 arg10_r0 arg11_r0 k0_hw1 k0_h1 => k0_hw1.1 k0_h1
theorem k0_off4_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off4 arg7_r0) a + S1x4096x256.size a ≤ S2x4096x256.size a := fun k0_t1 arg7_r0 arg8_r0 arg9_r0 arg10_r0 arg11_r0 k0_hw1 k0_h1 => k0_hw1.2.1 k0_h1
theorem k0_off5_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h1 : k0_cond1 k0_t1 arg11_r0 = 1#1), ∀ a, (k0_off5 arg11_r0) a + S4096x256.size a ≤ S32768x256.size a := fun k0_t1 arg7_r0 arg8_r0 arg9_r0 arg10_r0 arg11_r0 k0_hw1 k0_h1 => k0_hw1.2.2.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off6 arg8_r0) a + S1.size a ≤ S2.size a := fun k0_t1 arg7_r0 arg8_r0 arg9_r0 arg10_r0 arg11_r0 k0_hw1 k0_h2 => k0_hw1.2.2.2.1 k0_h2
theorem k0_off7_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off7 arg8_r0) a + S1x4096x256.size a ≤ S2x4096x256.size a := fun k0_t1 arg7_r0 arg8_r0 arg9_r0 arg10_r0 arg11_r0 k0_hw1 k0_h2 => k0_hw1.2.2.2.2.1 k0_h2
theorem k0_off8_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h2 : k0_cond2 k0_t1 arg11_r0 = 1#1), ∀ a, (k0_off8 arg11_r0) a + S4096x256.size a ≤ S32768x256.size a := fun k0_t1 arg7_r0 arg8_r0 arg9_r0 arg10_r0 arg11_r0 k0_hw1 k0_h2 => k0_hw1.2.2.2.2.2.1 k0_h2
theorem k0_off11_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off11 arg9_r0) a + S1.size a ≤ S2.size a := fun k0_t1 arg7_r0 arg8_r0 arg9_r0 arg10_r0 arg11_r0 k0_hw1 k0_h5 => k0_hw1.2.2.2.2.2.2.1 k0_h5
theorem k0_off12_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off12 arg11_r0) a + S1x1x4096.size a ≤ S8x1x4096.size a := fun k0_t1 arg7_r0 arg8_r0 arg9_r0 arg10_r0 arg11_r0 k0_hw1 k0_h5 => k0_hw1.2.2.2.2.2.2.2.1 k0_h5
theorem k0_off13_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h5 : k0_cond5 k0_t1 arg11_r0 = 1#1), ∀ a, (k0_off13 arg9_r0) a + S1x1x1x4096.size a ≤ S2x1x1x4096.size a := fun k0_t1 arg7_r0 arg8_r0 arg9_r0 arg10_r0 arg11_r0 k0_hw1 k0_h5 => k0_hw1.2.2.2.2.2.2.2.2.1 k0_h5
theorem k0_off14_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off14 arg10_r0) a + S1.size a ≤ S2.size a := fun k0_t1 arg7_r0 arg8_r0 arg9_r0 arg10_r0 arg11_r0 k0_hw1 k0_h7 => k0_hw1.2.2.2.2.2.2.2.2.2.1 k0_h7
theorem k0_off15_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off15 arg11_r0) a + S1x1x4096.size a ≤ S8x1x4096.size a := fun k0_t1 arg7_r0 arg8_r0 arg9_r0 arg10_r0 arg11_r0 k0_hw1 k0_h7 => k0_hw1.2.2.2.2.2.2.2.2.2.2.1 k0_h7
theorem k0_off16_inb : ∀ (k0_t1 : Fin k0_t1_loop.trips) (arg7_r0 : BitVec 32) (arg8_r0 : BitVec 32) (arg9_r0 : BitVec 32) (arg10_r0 : BitVec 32) (arg11_r0 : BitVec 32) (k0_hw1 : k0_chk1 k0_t1 arg7_r0 arg8_r0 arg9_r0 arg10_r0 arg11_r0), ∀ (k0_h7 : k0_cond7 k0_t1 arg11_r0 = 1#1), ∀ a, (k0_off16 arg10_r0) a + S1x1x1x4096.size a ≤ S2x1x1x4096.size a := fun k0_t1 arg7_r0 arg8_r0 arg9_r0 arg10_r0 arg11_r0 k0_hw1 k0_h7 => k0_hw1.2.2.2.2.2.2.2.2.2.2.2 k0_h7

def k0_off17 (v23_3_r0 : BitVec 32) : Fin 1 → Nat :=
  let c2_i32_47_r0 : BitVec 32 := 2#32
  let v44_r0 : BitVec 32 := Scalar.remui v23_3_r0 c2_i32_47_r0
  ![v44_r0.toNat]

def k0_off18 (v23_4_r0 : BitVec 32) : Fin 3 → Nat :=
  let c1_i32_48_r0 : BitVec 32 := 1#32
  let true_28_r0 : BitVec 1 := 1#1
  let c1_i32_27_r0 : BitVec 32 := 1#32
  let v24_r0 : BitVec 32 := Scalar.subi v23_4_r0 c1_i32_27_r0
  let v25_r0 : BitVec 32 := Scalar.select true_28_r0 v24_r0 v23_4_r0
  let c_m1_i32_29_r0 : BitVec 32 := 4294967295#32
  let v26_r0 : BitVec 1 := Scalar.cmpi .eq v25_r0 c_m1_i32_29_r0
  let c7_i32_30_r0 : BitVec 32 := 7#32
  let v27_r0 : BitVec 32 := Scalar.select v26_r0 c7_i32_30_r0 v25_r0
  let c0_i32_31_r0 : BitVec 32 := 0#32
  let v28_r0 : BitVec 32 := Scalar.addi v27_r0 c0_i32_31_r0
  let v45_r0 : BitVec 32 := Scalar.muli c1_i32_48_r0 v28_r0
  let c0_i32_49_r0 : BitVec 32 := 0#32
  let c0_i32_50_r0 : BitVec 32 := 0#32
  ![v45_r0.toNat, 0, 0]

def k0_chk5 (v23_4_r0 : BitVec 32) : Prop :=
  (∀ a, (k0_off18 v23_4_r0) a + S1x1x4096.size a ≤ S8x1x4096.size a)
theorem k0_off18_inb : ∀ (v23_4_r0 : BitVec 32) (k0_hw5 : k0_chk5 v23_4_r0), ∀ a, (k0_off18 v23_4_r0) a + S1x1x4096.size a ≤ S8x1x4096.size a := fun v23_4_r0 k0_hw5 => k0_hw5

def k0_off19 (v23_3_r0 : BitVec 32) : Fin 4 → Nat :=
  let c2_i32_47_r0 : BitVec 32 := 2#32
  let v44_r0 : BitVec 32 := Scalar.remui v23_3_r0 c2_i32_47_r0
  let c0_i32_51_r0 : BitVec 32 := 0#32
  let c0_i32_52_r0 : BitVec 32 := 0#32
  let c0_i32_53_r0 : BitVec 32 := 0#32
  ![v44_r0.toNat, 0, 0, 0]

def k0_chk4 (v23_3_r0 : BitVec 32) : Prop :=
  (∀ a, (k0_off17 v23_3_r0) a + S1.size a ≤ S2.size a) ∧
  (∀ a, (k0_off19 v23_3_r0) a + S1x1x1x4096.size a ≤ S2x1x1x4096.size a)
theorem k0_off17_inb : ∀ (v23_3_r0 : BitVec 32) (k0_hw4 : k0_chk4 v23_3_r0), ∀ a, (k0_off17 v23_3_r0) a + S1.size a ≤ S2.size a := fun v23_3_r0 k0_hw4 => k0_hw4.1
theorem k0_off19_inb : ∀ (v23_3_r0 : BitVec 32) (k0_hw4 : k0_chk4 v23_3_r0), ∀ a, (k0_off19 v23_3_r0) a + S1x1x1x4096.size a ≤ S2x1x1x4096.size a := fun v23_3_r0 k0_hw4 => k0_hw4.2

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊤
  | _ => none
-- ==== ReferenceIdeal.lean ====
abbrev S32768x256 : Shape := ⟨2, ![32768, 256]⟩
abbrev S64x128 : Shape := ⟨2, ![64, 128]⟩
abbrev S64x8x128 : Shape := ⟨3, ![64, 8, 128]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S128x64 : Shape := ⟨2, ![128, 64]⟩
abbrev S32768x64 : Shape := ⟨2, ![32768, 64]⟩
abbrev S64 : Shape := ⟨1, ![64]⟩
abbrev S1x64 : Shape := ⟨2, ![1, 64]⟩
abbrev S1 : Shape := ⟨1, ![1]⟩
abbrev S1x1 : Shape := ⟨2, ![1, 1]⟩
abbrev S32768x8x128 : Shape := ⟨3, ![32768, 8, 128]⟩
abbrev S32768x8 : Shape := ⟨2, ![32768, 8]⟩

abbrev nBuf : Space → Nat
  | .hbm => 73
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S64x128, .f32⟩
  | .hbm, ⟨2, _⟩ => ⟨S64x8x128, .f32⟩
  | .hbm, ⟨3, _⟩ => ⟨S32768x128, .f32⟩
  | .hbm, ⟨4, _⟩ => ⟨S32768x128, .f32⟩
  | .hbm, ⟨5, _⟩ => ⟨S32768x128, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S128x64, .f32⟩
  | .hbm, ⟨10, _⟩ => ⟨S32768x64, .f32⟩
  | .hbm, ⟨11, _⟩ => ⟨S_, .f32⟩
  | .hbm, ⟨12, _⟩ => ⟨S32768x64, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S64x128, .f32⟩
  | .hbm, ⟨17, _⟩ => ⟨S_, .f32⟩
  | .hbm, ⟨18, _⟩ => ⟨S64, .f32⟩
  | .hbm, ⟨19, _⟩ => ⟨S1x64, .f32⟩
  | .hbm, ⟨20, _⟩ => ⟨S32768x64, .f32⟩
  | .hbm, ⟨21, _⟩ => ⟨S32768x64, .f32⟩
  | .hbm, ⟨22, _⟩ => ⟨S32768x64, .i32⟩
  | .hbm, ⟨23, _⟩ => ⟨S_, .f32⟩
  | .hbm, ⟨24, _⟩ => ⟨S_, .i32⟩
  | .hbm, ⟨25, _⟩ => ⟨S32768, .f32⟩
  | .hbm, ⟨26, _⟩ => ⟨S32768, .i32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S32768x1, .i32⟩
  | .hbm, ⟨35, _⟩ => ⟨S1, .i32⟩
  | .hbm, ⟨36, _⟩ => ⟨S_, .i32⟩
  | .hbm, ⟨37, _⟩ => ⟨S32768x1, .i32⟩
  | .hbm, ⟨38, _⟩ => ⟨S32768x1, .i1⟩
  | .hbm, ⟨39, _⟩ => ⟨S1x1, .i32⟩
  | .hbm, ⟨40, _⟩ => ⟨S32768x1, .i32⟩
  | .hbm, ⟨41, _⟩ => ⟨S32768x1, .i1⟩
  | .hbm, ⟨42, _⟩ => ⟨S32768x1, .i1⟩
  | .hbm, ⟨43, _⟩ => ⟨S_, .i1⟩
  | .hbm, ⟨44, _⟩ => ⟨S32768, .i1⟩
  | .hbm, ⟨45, _⟩ => ⟨S32768x8x128, .f32⟩
  | .hbm, ⟨46, _⟩ => ⟨S32768x8x128, .i1⟩
  | .hbm, ⟨47, _⟩ => ⟨S_, .f32⟩
  | .hbm, ⟨48, _⟩ => ⟨S32768x8x128, .f32⟩
  | .hbm, ⟨49, _⟩ => ⟨S32768x8x128, .f32⟩
  | .hbm, ⟨50, _⟩ => ⟨S32768x128, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S32768x8, .f32⟩
  | .hbm, ⟨55, _⟩ => ⟨S_, .f32⟩
  | .hbm, ⟨56, _⟩ => ⟨S32768x8, .f32⟩
  | .hbm, ⟨57, _⟩ => ⟨S32768x8, .f32⟩
  | .hbm, ⟨58, _⟩ => ⟨S32768x8, .f32⟩
  | .hbm, ⟨59, _⟩ => ⟨S32768x8, .f32⟩
  | .hbm, ⟨60, _⟩ => ⟨S32768x8x128, .f32⟩
  | .hbm, ⟨61, _⟩ => ⟨S_, .f32⟩
  | .hbm, ⟨62, _⟩ => ⟨S32768x8, .f32⟩
  | .hbm, ⟨63, _⟩ => ⟨S32768x8, .f32⟩
  | .hbm, ⟨64, _⟩ => ⟨S32768x8, .i32⟩
  | .hbm, ⟨65, _⟩ => ⟨S_, .f32⟩
  | .hbm, ⟨66, _⟩ => ⟨S_, .i32⟩
  | .hbm, ⟨67, _⟩ => ⟨S32768, .f32⟩
  | .hbm, ⟨68, _⟩ => ⟨S32768, .i32⟩
  | .hbm, ⟨69, _⟩ => ⟨S_, .i32⟩
  | .hbm, ⟨70, _⟩ => ⟨S32768, .i32⟩
  | .hbm, ⟨71, _⟩ => ⟨S32768, .i32⟩
  | .hbm, ⟨72, _⟩ => ⟨S32768, .i32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_3 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_v28 : Ref sig .tc := ⟨.hbm, 63, rfl⟩
abbrev main_call2_v0 : Ref sig .tc := ⟨.hbm, 64, rfl⟩
abbrev main_call2_cst : Ref sig .tc := ⟨.hbm, 65, rfl⟩
abbrev main_call2_c : Ref sig .tc := ⟨.hbm, 66, rfl⟩
abbrev main_call2_v1_0 : Ref sig .tc := ⟨.hbm, 67, rfl⟩
abbrev main_v29 : Ref sig .tc := ⟨.hbm, 68, rfl⟩
abbrev main_c : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩

abbrev nD : Nat := 1
abbrev τ : Topo := Topo.v7x

variable {F : FTy → Type} [FloatOps F]
-- ==== Proof.Slots.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.VecWindow
public import Idealize.ShloMosaic.Lib.Tactic
public import Idealize.ShloMosaic.Lib.Pipeline.FrameSuffixV

/-!
# The two rings of the kernel, by name

The kernel streams the eight row blocks of its input through two slots and the eight rows of its
result through two more. Here each slot, each block and each semaphore cell gets one name, and the
words the loop carries get closed forms, so that a trip can be read without 32-bit arithmetic.
-/

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F] [Named F]

/-! ## The buffers -/

/-- The input rows, in main memory. -/
abbrev xAll : Memref sig .tc .hbm S32768x256 .f32 := Memref.whole main_arg0
/-- The result, in main memory. -/
abbrev oAll : Memref sig .tc .hbm S8x1x4096 .i32 := Memref.whole main_v11
/-- The two input slots. -/
abbrev xRing : Memref sig .tc .vmem S2x4096x256 .f32 := Memref.whole cc0_scoped0
/-- The two result slots. -/
abbrev oRing : Memref sig .tc .vmem S2x1x1x4096 .i32 := Memref.whole cc0_scoped2

theorem xSlot_inb (s : Fin 2) : ∀ a, (![s.val, 0, 0] : Fin 3 → ℕ) a + S1x4096x256.size a ≤ S2x4096x256.size a := by
  revert s; decide
theorem oSlot_inb (s : Fin 2) : ∀ a, (![s.val, 0, 0, 0] : Fin 4 → ℕ) a + S1x1x1x4096.size a ≤ S2x1x1x4096.size a := by
  revert s; decide
theorem xBlk_inb (b : Fin 8) : ∀ a, (![4096 * b.val, 0] : Fin 2 → ℕ) a + S4096x256.size a ≤ S32768x256.size a := by
  revert b; decide
theorem oBlk_inb (b : Fin 8) : ∀ a, (![b.val, 0, 0] : Fin 3 → ℕ) a + S1x1x4096.size a ≤ S8x1x4096.size a := by
  revert b; decide

/-- Input slot `s`. -/
def xSlot (s : Fin 2) : Memref sig .tc .vmem S4096x256 .f32 :=
  (xRing.slice (Rect.unit (s := S2x4096x256) ![s.val, 0, 0] S1x4096x256.size (xSlot_inb s)) (fun _ => rfl)).squeeze
    S4096x256 squeezes_S1x4096x256_S4096x256
/-- Result slot `s`. -/
def oSlot (s : Fin 2) : Memref sig .tc .vmem S1x1x4096 .i32 :=
  (oRing.slice (Rect.unit (s := S2x1x1x4096) ![s.val, 0, 0, 0] S1x1x1x4096.size (oSlot_inb s)) (fun _ => rfl)).squeeze
    S1x1x4096 squeezes_S1x1x1x4096_S1x1x4096
/-- Row block `b` of the input. -/
def xBlk (b : Fin 8) : Memref sig .tc .hbm S4096x256 .f32 :=
  xAll.slice (Rect.unit (s := S32768x256) ![4096 * b.val, 0] S4096x256.size (xBlk_inb b)) (fun _ => rfl)
/-- Row `b` of the result. -/
def oBlk (b : Fin 8) : Memref sig .tc .hbm S1x1x4096 .i32 :=
  oAll.slice (Rect.unit (s := S8x1x4096) ![b.val, 0, 0] S1x1x4096.size (oBlk_inb b)) (fun _ => rfl)

/-- The semaphore of input slot `s`. -/
def xCell (s : Fin 2) : DmaSem sig := (⟨4 + s.val, by have := s.isLt; show 4 + s.val < 8; omega⟩)
/-- The semaphore of result slot `s`. -/
def oCell (s : Fin 2) : DmaSem sig := (⟨6 + s.val, by have := s.isLt; show 6 + s.val < 8; omega⟩)

/-! ## The program's spellings of them -/

theorem xSlot_of (o : Fin 3 → ℕ) (h) (s : Fin 2) (e : o = ![s.val, 0, 0]) :
    (xRing.slice (Rect.unit (s := S2x4096x256) o S1x4096x256.size h) (fun _ => rfl)).squeeze S4096x256 squeezes_S1x4096x256_S4096x256 = xSlot s := by
  subst e; unfold xSlot; congr
theorem oSlot_of (o : Fin 4 → ℕ) (h) (s : Fin 2) (e : o = ![s.val, 0, 0, 0]) :
    (oRing.slice (Rect.unit (s := S2x1x1x4096) o S1x1x1x4096.size h) (fun _ => rfl)).squeeze S1x1x4096 squeezes_S1x1x1x4096_S1x1x4096 = oSlot s := by
  subst e; unfold oSlot; congr
theorem xBlk_of (o : Fin 2 → ℕ) (h) (b : Fin 8) (e : o = ![4096 * b.val, 0]) :
    xAll.slice (Rect.unit (s := S32768x256) o S4096x256.size h) (fun _ => rfl) = xBlk b := by
  subst e; unfold xBlk; congr
theorem oBlk_of (o : Fin 3 → ℕ) (h) (b : Fin 8) (e : o = ![b.val, 0, 0]) :
    oAll.slice (Rect.unit (s := S8x1x4096) o S1x1x4096.size h) (fun _ => rfl) = oBlk b := by
  subst e; unfold oBlk; congr
theorem cell_inb (s : Fin 2) : ∀ a, (![s.val] : Fin 1 → ℕ) a + S1.size a ≤ S2.size a := by
  revert s; decide
theorem xCell_lit : ∀ s : Fin 2,
    ((cc0_scoped1.slice (Rect.unit (s := S2) ![s.val] S1.size (cell_inb s))).squeeze S_ squeezes_S1_S_).sem = xCell s := by
  decide +kernel
theorem oCell_lit : ∀ s : Fin 2,
    ((cc0_scoped3.slice (Rect.unit (s := S2) ![s.val] S1.size (cell_inb s))).squeeze S_ squeezes_S1_S_).sem = oCell s := by
  decide +kernel
theorem xCell_of (o : Fin 1 → ℕ) (h) (s : Fin 2) (e : o = ![s.val]) :
    ((cc0_scoped1.slice (Rect.unit (s := S2) o S1.size h)).squeeze S_ squeezes_S1_S_).sem = xCell s := by
  subst e; exact xCell_lit s
theorem oCell_of (o : Fin 1 → ℕ) (h) (s : Fin 2) (e : o = ![s.val]) :
    ((cc0_scoped3.slice (Rect.unit (s := S2) o S1.size h)).squeeze S_ squeezes_S1_S_).sem = oCell s := by
  subst e; exact oCell_lit s

/-- The elements of an input slot are the ones its slab of the ring has. -/
theorem xSlot_set (o : Fin 3 → ℕ) (h) (s : Fin 2) (e : o = ![s.val, 0, 0]) :
    ((xRing.access (Rect.unit (s := S2x4096x256) o S1x4096x256.size h) : View sig .tc .vmem _ _).set) ⊆ (xSlot s).view.set := by
  subst e; exact (View.set_reshape _ _).ge

/-- What a load of a slot's slab of the ring reads is the slot's contents, with the slot axis in front. -/
theorem xSlot_read (o : Fin 3 → ℕ) (h) (s : Fin 2) (e : o = ![s.val, 0, 0]) (f : xRing.view.ty.Contents (Elt F)) :
    View.readAt (Elt F) xRing.view (Rect.unit (s := S2x4096x256) o S1x4096x256.size h).toLoadRect f
      = fun i => (xSlot s).view.read (Elt F) f (Shape.reshapeEquiv squeezes_S1x4096x256_S4096x256.numel_eq.symm i) := by
  subst e
  funext i
  have hr : ∀ z, (xSlot s).view.read (Elt F) f z
      = View.readAt (Elt F) xRing.view (Rect.unit (s := S2x4096x256) ![s.val, 0, 0] S1x4096x256.size h).toLoadRect f
          (Shape.reshapeEquiv squeezes_S1x4096x256_S4096x256.numel_eq z) := fun z => rfl
  rw [hr]
  congr 1
  simp [Shape.reshapeEquiv]

/-! ## The words a trip carries -/

/-- The five words before trip `k`: blocks asked for, blocks waited for, blocks computed, results
    waited for, and the current block. -/
def carry (k : ℕ) : BitVec 32 × BitVec 32 × BitVec 32 × BitVec 32 × BitVec 32 :=
  (BitVec.ofNat 32 (min (k + 1) 8), BitVec.ofNat 32 k, BitVec.ofNat 32 k, BitVec.ofNat 32 (k - 1), BitVec.ofNat 32 (k % 8))

theorem off3_eq : ∀ k : Fin 8, k.val < 7 → k0_off3 (carry k).1 = ![(sl 2 (k.val + 1)).val] := by decide +kernel
theorem off4_eq : ∀ k : Fin 8, k.val < 7 → k0_off4 (carry k).1 = ![(sl 2 (k.val + 1)).val, 0, 0] := by decide +kernel
theorem off5_eq : ∀ k : Fin 8, k.val < 7 → k0_off5 (carry k).2.2.2.2 = ![4096 * (bk 8 (k.val + 1)).val, 0] := by decide +kernel
theorem off6_eq : ∀ k : Fin 8, k0_off6 (carry k).2.1 = ![(sl 2 k.val).val] := by decide +kernel
theorem off7_eq : ∀ k : Fin 8, k0_off7 (carry k).2.1 = ![(sl 2 k.val).val, 0, 0] := by decide +kernel
theorem off8_eq : ∀ k : Fin 8, k0_off8 (carry k).2.2.2.2 = ![4096 * (bk 8 k.val).val, 0] := by decide +kernel
theorem off9_eq : ∀ k : Fin 8, k0_off9 (carry k).2.1 = ![(sl 2 k.val).val, 0, 0] := by decide +kernel
theorem off10_eq : ∀ k : Fin 8, k0_off10 (carry k).2.2.1 = ![(sl 2 k.val).val, 0, 0, 0] := by decide +kernel
theorem off11_eq : ∀ k : Fin 8, k0_off11 (carry k).2.2.1 = ![(sl 2 k.val).val] := by decide +kernel
theorem off12_eq : ∀ k : Fin 8, k0_off12 (carry k).2.2.2.2 = ![(bk 8 k.val).val, 0, 0] := by decide +kernel
theorem off13_eq : ∀ k : Fin 8, k0_off13 (carry k).2.2.1 = ![(sl 2 k.val).val, 0, 0, 0] := by decide +kernel
theorem off14_eq : ∀ k : Fin 8, 1 ≤ k.val → k0_off14 (carry k).2.2.2.1 = ![(sl 2 (k.val + 1)).val] := by decide +kernel
theorem off15_eq : ∀ k : Fin 8, 1 ≤ k.val → k0_off15 (carry k).2.2.2.2 = ![(bk 8 (k.val - 1)).val, 0, 0] := by decide +kernel
theorem off16_eq : ∀ k : Fin 8, 1 ≤ k.val → k0_off16 (carry k).2.2.2.1 = ![(sl 2 (k.val + 1)).val, 0, 0, 0] := by decide +kernel

theorem trips_eq : k0_t1_loop.trips = 8 := by decide +kernel

theorem cond1_eq : ∀ k : Fin k0_t1_loop.trips, k0_cond1 k (carry k).2.2.2.2 = 1#1 ↔ k.val < 7 := by decide +kernel
theorem cond2_eq : ∀ k : Fin k0_t1_loop.trips, k0_cond2 k (carry k).2.2.2.2 = 1#1 := by decide +kernel
theorem cond5_eq : ∀ k : Fin k0_t1_loop.trips, k0_cond5 k (carry k).2.2.2.2 = 1#1 := by decide +kernel
theorem cond7_eq : ∀ k : Fin k0_t1_loop.trips, k0_cond7 k (carry k).2.2.2.2 = 1#1 ↔ 1 ≤ k.val := by decide +kernel
theorem chk1_ok : ∀ k : Fin k0_t1_loop.trips, k0_chk1 k (carry k).1 (carry k).2.1 (carry k).2.2.1 (carry k).2.2.2.1 (carry k).2.2.2.2 := by
  decide +kernel
theorem chk2_ok : ∀ k : Fin k0_t1_loop.trips, k0_chk2 (carry k).2.1 := by decide +kernel
theorem chk3_ok : ∀ k : Fin k0_t1_loop.trips, k0_chk3 (carry k).2.2.1 := by decide +kernel

/-- The five words a trip hands on, from its own five. -/
def next (k : Fin k0_t1_loop.trips) (w : BitVec 32 × BitVec 32 × BitVec 32 × BitVec 32 × BitVec 32) :
    BitVec 32 × BitVec 32 × BitVec 32 × BitVec 32 × BitVec 32 :=
  let arg7 := w.1
  let arg8 := w.2.1
  let arg9 := w.2.2.1
  let arg10 := w.2.2.2.1
  let arg11 := w.2.2.2.2
  let arg6 : BitVec 32 := Scf.iv 0#32 1#32 k
  let first : BitVec 1 := Scalar.cmpi .eq arg6 0#32
  let last : BitVec 1 := Scalar.cmpi .eq arg6 7#32
  let here : BitVec 32 := Scalar.addi arg11 0#32
  let down : BitVec 32 := Scalar.select 1#1 (Scalar.subi arg11 1#32) arg11
  let before : BitVec 32 := Scalar.addi (Scalar.select (Scalar.cmpi .eq down 4294967295#32) 7#32 down) 0#32
  let up : BitVec 32 := Scalar.select 1#1 (Scalar.addi arg11 1#32) arg11
  let up' : BitVec 32 := Scalar.select (Scalar.cmpi .eq up 8#32) 0#32 up
  let after : BitVec 32 := Scalar.addi up' 0#32
  (Scalar.select (Scalar.andi (Scalar.andi (Scalar.cmpi .ne here after) (Scalar.xori (Scalar.cmpi .sge arg6 7#32) 1#1)) 1#1)
      (Scalar.addi arg7 1#32) arg7,
    Scalar.select (Scalar.ori (Scalar.cmpi .ne here after) last) (Scalar.addi arg8 1#32) arg8,
    Scalar.select (Scalar.andi (Scalar.ori (Scalar.cmpi .ne here after) last) 1#1) (Scalar.addi arg9 1#32) arg9,
    Scalar.select (Scalar.andi (Scalar.andi (Scalar.cmpi .ne here before) (Scalar.xori first 1#1)) 1#1) (Scalar.addi arg10 1#32) arg10,
    up')

theorem next_eq : ∀ k : Fin k0_t1_loop.trips, next k (carry k) = carry (k.val + 1) := by decide +kernel

end Cert.KernelIdeal.Gen

end
-- ==== Proof.Trip.lean ====
module

public import proofs.«01_k».proof.Proof.Slots

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {F : FTy → Type} [FloatOps F] [Named F]

local notation "𝕄" => MT nD τ sig Unit (Elt F) ℕ (Pipeline.UD sig nD τ) ℕ

/-- The contents of a buffer of a device. -/
abbrev C (F : FTy → Type) (c : Dev nD) (b : Ref sig .tc) := Buf (Elt F) ((c : Thread nD τ).loc b)

/-- Row block `b` of the input, held. -/
abbrev xHeld (c : Dev nD) (fx : Buf (Elt F) (xAll.view.loc (c : Thread nD τ))) (b : Fin 8) : sProp 𝕄 :=
  (xBlk b).view.loc (c : Thread nD τ) ↦[(xBlk b).view.set]{fullShare} fx
/-- Input slot `s`, idle. -/
abbrev xFree (c : Dev nD) (s : Fin 2) : sProp 𝕄 :=
  iprop(semVal ((c : Thread nD τ), SemLoc.dma (xCell s)) 0
    ∗ ∃ f, (xSlot s).view.loc (c : Thread nD τ) ↦[(xSlot s).view.set]{fullShare} f)

/-- Input slot `s` while row block `b` comes into it. -/
abbrev xFlight (c : Dev nD) (fx : Buf (Elt F) (xAll.view.loc (c : Thread nD τ))) (s : Fin 2) (b : Fin 8) : sProp 𝕄 :=
  iprop(∃ f, Transfers.Flight (countersEmb (U := Pipeline.UD sig nD τ)) (c : Thread nD τ) (SemLoc.dma (xCell s)) () 131072
    iprop(((xSlot s).view.loc (c : Thread nD τ) ↦[(xSlot s).view.set]{fullShare}
            (xSlot s).view.writes (Elt F) f [⟨Rect.whole S4096x256, ReadAs.same.apply ((xBlk b).view.read (Elt F) fx)⟩])
      ∗ xHeld c fx b))

/-- A row block with a unit axis in front, as the body reads it. -/
def rowsOf (c : Dev nD) (fx : Buf (Elt F) (xAll.view.loc (c : Thread nD τ))) (b : Fin 8) : Vec F S1x4096x256 .f32 :=
  fun i => (xBlk b).view.read (Elt F) fx (Shape.reshapeEquiv squeezes_S1x4096x256_S4096x256.numel_eq.symm i)

/-- What the body computes from one row block and the four small operands. -/
def rowVal (x : Vec F S1x4096x256 .f32) (w1 : Vec F S64x128 .f32) (w2 : Vec F S64x1 .f32) (w3 : Vec F S512x128 .bf16)
    (w4 : Vec F S512x1 .bf16) : Vec F S1x1x4096 .i32 :=
  k0_pay5 (k0_pay2 x w1 w2) (k0_pay3 w3) (k0_pay4 x) (constant S512x4096 .f32 0x00000000#32) w4

/-- Row `b` of the result, held at contents nothing names. -/
abbrev oOpen (c : Dev nD) (b : Fin 8) : sProp 𝕄 :=
  iprop(∃ f, (oBlk b).view.loc (c : Thread nD τ) ↦[(oBlk b).view.set]{fullShare} f)
/-- Row `b` of the result, held at `y`. -/
abbrev oDone (c : Dev nD) (b : Fin 8) (y : Vec F S1x1x4096 .i32) : sProp 𝕄 :=
  (oBlk b).view.loc (c : Thread nD τ) ↦[(oBlk b).view.set]{fullShare} (oBlk b).view.rep y
/-- Result slot `s`, idle. -/
abbrev oFree (c : Dev nD) (s : Fin 2) : sProp 𝕄 :=
  iprop(semVal ((c : Thread nD τ), SemLoc.dma (oCell s)) 0
    ∗ ∃ f, (oSlot s).view.loc (c : Thread nD τ) ↦[(oSlot s).view.set]{fullShare} f)
/-- Result slot `s` while `y` goes from it to row `b`. -/
abbrev oFlight (c : Dev nD) (s : Fin 2) (b : Fin 8) (y : Vec F S1x1x4096 .i32) : sProp 𝕄 :=
  iprop(∃ f g, ⌜(oSlot s).view.read (Elt F) g = y⌝ ∗
    Transfers.Flight (countersEmb (U := Pipeline.UD sig nD τ)) (c : Thread nD τ) (SemLoc.dma (oCell s)) () 512
    iprop(((oBlk b).view.loc (c : Thread nD τ) ↦[(oBlk b).view.set]{fullShare}
            (oBlk b).view.writes (Elt F) f [⟨Rect.whole S1x1x4096, ReadAs.same.apply ((oSlot s).view.read (Elt F) g)⟩])
      ∗ (oSlot s).view.loc (c : Thread nD τ) ↦[(oSlot s).view.set]{fullShare} g))

/-- The row of the result a landed transfer of `y` leaves. -/
theorem oDone_of_landed (c : Dev nD) (b : Fin 8) (y : Vec F S1x1x4096 .i32) (f : Buf (Elt F) ((oBlk b).view.loc (c : Thread nD τ))) :
    ((oBlk b).view.loc (c : Thread nD τ) ↦[(oBlk b).view.set]{fullShare}
        (oBlk b).view.writes (Elt F) f [⟨Rect.whole S1x1x4096, ReadAs.same.apply y⟩] : sProp 𝕄) = oDone c b y := by
  refine (pointsTo_rep (Ix := Unit) (Name := ℕ) (U := Pipeline.UD sig nD τ) (Lvl := ℕ) (c : Thread nD τ) (oBlk b) _ _).trans ?_
  exact congrArg (fun z => ((oBlk b).view.loc (c : Thread nD τ) ↦[(oBlk b).view.set]{fullShare} (oBlk b).view.rep z : sProp 𝕄))
    (View.read_writes_whole _ _ _)

attribute [local irreducible] k0_pay2 k0_pay3 k0_pay4 k0_pay5 rowsOf

section Trip

variable (c : Dev nD) (m1 : Memref sig .tc .vmem S64x128 .f32) (m2 : Memref sig .tc .vmem S64x1 .f32)
  (m3 : Memref sig .tc .vmem S512x128 .bf16) (m4 : Memref sig .tc .vmem S512x1 .bf16)
  (fx : Buf (Elt F) (xAll.view.loc (c : Thread nD τ)))
  (f1 : Buf (Elt F) (m1.view.loc (c : Thread nD τ))) (f2 : Buf (Elt F) (m2.view.loc (c : Thread nD τ)))
  (f3 : Buf (Elt F) (m3.view.loc (c : Thread nD τ))) (f4 : Buf (Elt F) (m4.view.loc (c : Thread nD τ)))

/-- The result's row `b`, from the input and the four operands' buffers. -/
def rowOut (b : Fin 8) : Vec F S1x1x4096 .i32 :=
  rowVal (rowsOf c fx b)
    (View.readAt (Elt F) m1.view (Rect.unit (s := S64x128) ![0, 0] S64x128.size inb_S64x128_S64x128_0_0).toLoadRect f1)
    (View.readAt (Elt F) m2.view (Rect.unit (s := S64x1) ![0, 0] S64x1.size inb_S64x1_S64x1_0_0).toLoadRect f2)
    (View.readAt (Elt F) m3.view (Rect.unit (s := S512x128) ![0, 0] S512x128.size inb_S512x128_S512x128_0_0).toLoadRect f3)
    (View.readAt (Elt F) m4.view (Rect.unit (s := S512x1) ![0, 0] S512x1.size inb_S512x1_S512x1_0_0).toLoadRect f4)

/-- The four operands, held. -/
abbrev opsHeld : sProp 𝕄 :=
  iprop((m1.view.loc (c : Thread nD τ) ↦[Finset.univ]{fullShare} f1) ∗ (m2.view.loc (c : Thread nD τ) ↦[Finset.univ]{fullShare} f2)
      ∗ (m3.view.loc (c : Thread nD τ) ↦[Finset.univ]{fullShare} f3) ∗ (m4.view.loc (c : Thread nD τ) ↦[Finset.univ]{fullShare} f4))

/-- The row block a trip asks for, if there is one. -/
abbrev xAsk (k : ℕ) : sProp 𝕄 := if k < 7 then xHeld c fx (bk 8 (k + 1)) else iprop(emp)
/-- The other input slot after a trip. -/
abbrev xNext (k : ℕ) : sProp 𝕄 := if k < 7 then xFlight c fx (sl 2 (k + 1)) (bk 8 (k + 1)) else xFree c (sl 2 (k + 1))
/-- The other result slot before a trip. -/
abbrev oPrev (k : ℕ) : sProp 𝕄 :=
  if 1 ≤ k then oFlight c (sl 2 (k + 1)) (bk 8 (k - 1)) (rowOut c m1 m2 m3 m4 fx f1 f2 f3 f4 (bk 8 (k - 1))) else oFree c (sl 2 (k + 1))
/-- The row that has landed during a trip, if there is one. -/
abbrev oLanded (k : ℕ) : sProp 𝕄 :=
  if 1 ≤ k then oDone c (bk 8 (k - 1)) (rowOut c m1 m2 m3 m4 fx f1 f2 f3 f4 (bk 8 (k - 1))) else iprop(emp)

/-- What a trip ends with. -/
abbrev tripPost (k : ℕ) : sProp 𝕄 :=
  iprop((∃ W, owes (c : Thread nD τ) 0 W) ∗ opsHeld c m1 m2 m3 m4 f1 f2 f3 f4
      ∗ xHeld c fx (bk 8 k) ∗ xFree c (sl 2 k) ∗ xNext c fx k
      ∗ oFlight c (sl 2 k) (bk 8 k) (rowOut c m1 m2 m3 m4 fx f1 f2 f3 f4 (bk 8 k))
      ∗ oLanded c m1 m2 m3 m4 fx f1 f2 f3 f4 k ∗ oFree c (sl 2 (k + 1)))

set_option maxHeartbeats 1000000 in
/-- One trip: it asks for the next row block, waits for its own, computes its row of the result, sends
    it off and waits for the previous row to land. -/
theorem trip (hm1 : m1.IsWhole) (hm2 : m2.IsWhole) (hm3 : m3.IsWhole) (hm4 : m4.IsWhole) (k : Fin k0_t1_loop.trips)
    (W : Waits sig Unit) (Q : _ → sProp 𝕄) :
    iprop(owes (c : Thread nD τ) 0 W ∗ opsHeld c m1 m2 m3 m4 f1 f2 f3 f4
      ∗ xAsk c fx k.val ∗ xFree c (sl 2 (k.val + 1)) ∗ xFlight c fx (sl 2 k.val) (bk 8 k.val)
      ∗ oOpen c (bk 8 k.val) ∗ oFree c (sl 2 k.val) ∗ oPrev c m1 m2 m3 m4 fx f1 f2 f3 f4 k.val
      ∗ (tripPost c m1 m2 m3 m4 fx f1 f2 f3 f4 k.val -∗ Q (carry (k.val + 1))))
      ⊢ wp frame (wpE defs₀ Variants.none (c : Thread nD τ) none) Set.univ
        (k0_t1_body (F := F) xAll (Memref.isWhole_whole _) m1 hm1 m2 hm2 m3 hm3 m4 hm4 oAll (Memref.isWhole_whole _)
          xRing (Memref.isWhole_whole _) cc0_scoped1 oRing (Memref.isWhole_whole _) cc0_scoped3 k (carry k.val)) Q := by
  have hk8 : k.val < 8 := Nat.lt_of_lt_of_eq k.isLt trips_eq
  rw [← next_eq k]
  have o3 := off3_eq ⟨k.val, hk8⟩
  have o4 := off4_eq ⟨k.val, hk8⟩
  have o5 := off5_eq ⟨k.val, hk8⟩
  have o6 := off6_eq ⟨k.val, hk8⟩
  have o7 := off7_eq ⟨k.val, hk8⟩
  have o8 := off8_eq ⟨k.val, hk8⟩
  have o9 := off9_eq ⟨k.val, hk8⟩
  have o10 := off10_eq ⟨k.val, hk8⟩
  have o11 := off11_eq ⟨k.val, hk8⟩
  have o12 := off12_eq ⟨k.val, hk8⟩
  have o13 := off13_eq ⟨k.val, hk8⟩
  have o14 := off14_eq ⟨k.val, hk8⟩
  have o15 := off15_eq ⟨k.val, hk8⟩
  have o16 := off16_eq ⟨k.val, hk8⟩
  have c1 := cond1_eq k
  have c2 := cond2_eq k
  have c5 := cond5_eq k
  have c7 := cond7_eq k
  have g1 := chk1_ok k
  have g2 := chk2_ok k
  have g3 := chk3_ok k
  dsimp only at o3 o4 o5 o6 o7 o8 o9 o10 o11 o12 o13 o14 o15 o16
  generalize carry k.val = w at *
  obtain ⟨a7, a8, a9, a10, a11⟩ := w
  dsimp only at o3 o4 o5 o6 o7 o8 o9 o10 o11 o12 o13 o14 o15 o16 c1 c2 c5 c7 g1 g2 g3
  have hS : ∀ h, ((xRing.access (Rect.unit (s := S2x4096x256) (k0_off9 a8) S1x4096x256.size h) : View sig .tc .vmem _ _).set)
      ⊆ (xSlot (sl 2 k.val)).view.set := fun h => xSlot_set _ h _ o9
  simp only [k0_t1_body, k0_part1_eq_skeleton, k0_part2_eq_skeleton, k0_part3_eq_skeleton, k0_part1_skel, k0_part2_skel, k0_part3_skel,
    dif_pos c2, dif_pos c5, ite_self]
  simp only [xSlot_of _ _ _ o7, xBlk_of _ _ _ o8, xCell_of _ _ _ o6,
    oSlot_of _ _ _ o10, oSlot_of _ _ _ o13, oBlk_of _ _ _ o12, oCell_of _ _ _ o11]
  have hx : ∀ h g, View.readAt (Elt F) xRing.view (Rect.unit (s := S2x4096x256) (k0_off9 a8) S1x4096x256.size h).toLoadRect
      ((xSlot (sl 2 k.val)).view.writes (Elt F) g [⟨Rect.whole S4096x256, ReadAs.same.apply ((xBlk (bk 8 k.val)).view.read (Elt F) fx)⟩])
      = rowsOf c fx (bk 8 k.val) := fun h g =>
    (xSlot_read _ h _ o9 _).trans (by unfold rowsOf; exact funext fun i => congrFun (View.read_writes_whole (xSlot (sl 2 k.val)).view g _) _)
  rcases Nat.lt_or_ge k.val 7 with h7 | h7
  · have o3 := o3 h7
    have o4 := o4 h7
    have o5 := o5 h7
    simp only [dif_pos (c1.mpr h7), xSlot_of _ _ _ o4, xBlk_of _ _ _ o5, xCell_of _ _ _ o3, xAsk, xNext, tripPost, if_pos h7]
    rcases Nat.lt_or_ge k.val 1 with h1 | h1
    · have h1 := Nat.not_le.mpr h1
      simp only [dif_neg (fun h => h1 (c7.mp h)), oPrev, oLanded, if_neg h1]
      iintro ⟨Ho, ⟨Hm1, Hm2, Hm3, Hm4⟩, Hx1, ⟨Hc1, %fs1, Hs1⟩, ⟨%fs0, Hc0⟩, ⟨%fo, Ho0⟩, ⟨Hd0, %ft0, Ht0⟩, ⟨Hd1, %gp, Hs2⟩, Hq⟩
      sl_exec
      sl_step
      sl_unfold_run_names
      dsimp only [next]
      iapply Hq
      isplitl [Ho]; · iexists _; iexact Ho
      isplitl [Hm1 Hm2 Hm3 Hm4]
      · isplitl [Hm1]; · iexact Hm1
        isplitl [Hm2]; · iexact Hm2
        isplitl [Hm3]; · iexact Hm3
        iexact Hm4
      isplitl [Hc0_src]; · iexact Hc0_src
      isplitl [Hc0 Hc0_dst]
      · isplitl [Hc0]; · iexact Hc0
        iexists _; iexact Hc0_dst
      isplitl [Hc1]; · iexists fs1; iexact Hc1
      isplitl [Hd0]
      · iexists fo, _
        isplitr
        rotate_left
        · iexact Hd0
        · ipureintro
          refine (View.read_writes_full _ _ _ _ _).trans ?_
          unfold rowOut rowVal
          dsimp only
      isplitr
      · iempintro
      isplitl [Hd1]; · iexact Hd1
      iexists gp; iexact Hs2
    · have o14 := o14 h1
      have o15 := o15 h1
      have o16 := o16 h1
      simp only [dif_pos (c7.mpr h1), oSlot_of _ _ _ o16, oBlk_of _ _ _ o15, oCell_of _ _ _ o14, oPrev, oLanded, if_pos h1]
      iintro ⟨Ho, ⟨Hm1, Hm2, Hm3, Hm4⟩, Hx1, ⟨Hc1, %fs1, Hs1⟩, ⟨%fs0, Hc0⟩, ⟨%fo, Ho0⟩, ⟨Hd0, %ft0, Ht0⟩, ⟨%fp, %gp, %hgp, Hd1⟩, Hq⟩
      sl_exec
      sl_step
      sl_unfold_run_names
      dsimp only [next]
      iapply Hq
      isplitl [Ho]; · iexists _; iexact Ho
      isplitl [Hm1 Hm2 Hm3 Hm4]
      · isplitl [Hm1]; · iexact Hm1
        isplitl [Hm2]; · iexact Hm2
        isplitl [Hm3]; · iexact Hm3
        iexact Hm4
      isplitl [Hc0_src]; · iexact Hc0_src
      isplitl [Hc0 Hc0_dst]
      · isplitl [Hc0]; · iexact Hc0
        iexists _; iexact Hc0_dst
      isplitl [Hc1]; · iexists fs1; iexact Hc1
      isplitl [Hd0]
      · iexists fo, _
        isplitr
        rotate_left
        · iexact Hd0
        · ipureintro
          refine (View.read_writes_full _ _ _ _ _).trans ?_
          unfold rowOut rowVal
          dsimp only
      isplitl [Hd1_dst]
      · rw [← oDone_of_landed c _ _ fp, ← hgp]; iexact Hd1_dst
      isplitl [Hd1]; · iexact Hd1
      iexists gp; iexact Hd1_src
  · have h1 : 1 ≤ k.val := by omega
    have h7 := Nat.not_lt.mpr h7
    simp only [dif_neg (fun h => h7 (c1.mp h)), xAsk, xNext, tripPost, if_neg h7]
    · have o14 := o14 h1
      have o15 := o15 h1
      have o16 := o16 h1
      simp only [dif_pos (c7.mpr h1), oSlot_of _ _ _ o16, oBlk_of _ _ _ o15, oCell_of _ _ _ o14, oPrev, oLanded, if_pos h1]
      iintro ⟨Ho, ⟨Hm1, Hm2, Hm3, Hm4⟩, -, ⟨Hc1, %fs1, Hs1⟩, ⟨%fs0, Hc0⟩, ⟨%fo, Ho0⟩, ⟨Hd0, %ft0, Ht0⟩, ⟨%fp, %gp, %hgp, Hd1⟩, Hq⟩
      sl_exec
      sl_step
      sl_unfold_run_names
      dsimp only [next]
      iapply Hq
      isplitl [Ho]; · iexists _; iexact Ho
      isplitl [Hm1 Hm2 Hm3 Hm4]
      · isplitl [Hm1]; · iexact Hm1
        isplitl [Hm2]; · iexact Hm2
        isplitl [Hm3]; · iexact Hm3
        iexact Hm4
      isplitl [Hc0_src]; · iexact Hc0_src
      isplitl [Hc0 Hc0_dst]
      · isplitl [Hc0]; · iexact Hc0
        iexists _; iexact Hc0_dst
      isplitl [Hc1 Hs1]
      · isplitl [Hc1]; · iexact Hc1
        iexists fs1; iexact Hs1
      isplitl [Hd0]
      · iexists fo, _
        isplitr
        rotate_left
        · iexact Hd0
        · ipureintro
          refine (View.read_writes_full _ _ _ _ _).trans ?_
          unfold rowOut rowVal
          dsimp only
      isplitl [Hd1_dst]
      · rw [← oDone_of_landed c _ _ fp, ← hgp]; iexact Hd1_dst
      isplitl [Hd1]; · iexact Hd1
      iexists gp; iexact Hd1_src

end Trip

end Cert.KernelIdeal.Gen

end
-- ==== Proof.Loop.lean ====
module

public import proofs.«01_k».proof.Proof.Trip
public import Idealize.ShloMosaic.Lib.Ring.Trips
public import Idealize.ShloMosaic.Lib.Ring.WriteBehind

/-!
# The loop over the row blocks

Before trip `k` the blocks before `k` have been read and are back, the ones after `k` have not been
asked for, and block `k` is on its way; of the result's rows all but the last computed one have landed.
-/

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk aheadSet behindSet)

variable {F : FTy → Type} [FloatOps F] [Named F]

local notation "𝕄" => MT nD τ sig Unit (Elt F) ℕ (Pipeline.UD sig nD τ) ℕ

section Loop

variable (c : Dev nD) (m1 : Memref sig .tc .vmem S64x128 .f32) (m2 : Memref sig .tc .vmem S64x1 .f32)
  (m3 : Memref sig .tc .vmem S512x128 .bf16) (m4 : Memref sig .tc .vmem S512x1 .bf16)
  (fx : Buf (Elt F) (xAll.view.loc (c : Thread nD τ)))
  (f1 : Buf (Elt F) (m1.view.loc (c : Thread nD τ))) (f2 : Buf (Elt F) (m2.view.loc (c : Thread nD τ)))
  (f3 : Buf (Elt F) (m3.view.loc (c : Thread nD τ))) (f4 : Buf (Elt F) (m4.view.loc (c : Thread nD τ)))

/-- The current input slot before trip `k`: its block on the way, or nothing once all have come. -/
abbrev xCur (k : ℕ) : sProp 𝕄 := if k < 8 then xFlight c fx (sl 2 k) (bk 8 k) else xFree c (sl 2 k)

/-- The row blocks not yet asked for. -/
def xAhead (k : ℕ) : sProp 𝕄 := bigSep (aheadSet (NB := 8) (k + 1)) (xHeld c fx)
/-- The row blocks read. -/
def xBehind (k : ℕ) : sProp 𝕄 := bigSep (behindSet (NB := 8) 0 k) (xHeld c fx)
/-- The rows of the result not yet computed. -/
def oAhead (k : ℕ) : sProp 𝕄 := bigSep (aheadSet (NB := 8) k) (oOpen (F := F) c)
/-- The rows of the result that have landed. -/
def oBehind (k : ℕ) : sProp 𝕄 :=
  bigSep (behindSet (NB := 8) 1 k) fun b => oDone c b (rowOut c m1 m2 m3 m4 fx f1 f2 f3 f4 b)

theorem xAhead_take (k : ℕ) : (xAhead c fx k : sProp 𝕄) ⊢ iprop(xAsk c fx k ∗ xAhead c fx (k + 1)) := by
  unfold xAhead
  rcases Nat.lt_or_ge k 7 with h | h
  · rw [Ring.aheadSet_open (NB := 8) (k + 1) (by omega), bigSep_insert (Ring.bk_not_mem_aheadSet_succ (NB := 8) (k + 1) (by omega)), xAsk, if_pos h]
    exact .rfl
  · rw [Ring.aheadSet_end (NB := 8) (k + 1) (by omega), Ring.aheadSet_end (NB := 8) (k + 1 + 1) (by omega), xAsk, if_neg (Nat.not_lt.mpr h)]
    iintro H
    isplitr; · iempintro
    iexact H

theorem xBehind_put (k : ℕ) (hk : k < 8) : iprop(xHeld c fx (bk 8 k) ∗ xBehind c fx k) ⊢ (xBehind c fx (k + 1) : sProp 𝕄) := by
  unfold xBehind
  rw [Ring.behindSet_close 0 k (Nat.zero_le _) hk, bigSep_insert (Ring.bk_not_mem_behindSet 0 k (Nat.zero_le _) hk)]
  exact .rfl

theorem oAhead_take (k : ℕ) (hk : k < 8) : (oAhead c k : sProp 𝕄) ⊢ iprop(oOpen c (bk 8 k) ∗ oAhead c (k + 1)) := by
  unfold oAhead
  rw [Ring.aheadSet_open (NB := 8) k hk, bigSep_insert (Ring.bk_not_mem_aheadSet_succ (NB := 8) k hk)]
  exact .rfl

theorem oBehind_put (k : ℕ) (hk : k < 8) :
    iprop(oLanded c m1 m2 m3 m4 fx f1 f2 f3 f4 k ∗ oBehind c m1 m2 m3 m4 fx f1 f2 f3 f4 k)
      ⊢ (oBehind c m1 m2 m3 m4 fx f1 f2 f3 f4 (k + 1) : sProp 𝕄) := by
  unfold oBehind
  rcases Nat.lt_or_ge k 1 with h | h
  · rw [Ring.behindSet_boot 1 k (by omega), Ring.behindSet_boot 1 (k + 1) (by omega)]
    iintro ⟨-, H⟩; iexact H
  · rw [Ring.behindSet_close 1 k h hk, bigSep_insert (Ring.bk_not_mem_behindSet 1 k h hk), oLanded, if_pos h]
    exact .rfl

theorem xNext_eq (k : ℕ) : (xNext c fx k : sProp 𝕄) = xCur c fx (k + 1) := by
  by_cases h : k < 7
  · rw [xNext, xCur, if_pos h, if_pos (by omega)]
  · rw [xNext, xCur, if_neg h, if_neg (by omega)]

theorem oPrev_succ (k : ℕ) : (oPrev c m1 m2 m3 m4 fx f1 f2 f3 f4 (k + 1) : sProp 𝕄)
    = oFlight c (sl 2 k) (bk 8 k) (rowOut c m1 m2 m3 m4 fx f1 f2 f3 f4 (bk 8 k)) := by
  rw [oPrev, if_pos (by omega), Ring.sl_succ_add 2 k 1 rfl]; rfl

/-- What holds before trip `k`. -/
def invAt (k : ℕ) : sProp 𝕄 :=
  iprop((∃ W, owes (c : Thread nD τ) 0 W) ∗ opsHeld c m1 m2 m3 m4 f1 f2 f3 f4
    ∗ xCur c fx k ∗ xFree c (sl 2 (k + 1)) ∗ xAhead c fx k ∗ xBehind c fx k
    ∗ oFree c (sl 2 k) ∗ oPrev c m1 m2 m3 m4 fx f1 f2 f3 f4 k ∗ oAhead c k ∗ oBehind c m1 m2 m3 m4 fx f1 f2 f3 f4 k)

theorem inv_step (hm1 : m1.IsWhole) (hm2 : m2.IsWhole) (hm3 : m3.IsWhole) (hm4 : m4.IsWhole) (k : Fin k0_t1_loop.trips) :
    invAt c m1 m2 m3 m4 fx f1 f2 f3 f4 k.val
      ⊢ wp frame (wpE defs₀ Variants.none (c : Thread nD τ) none) Set.univ
        (k0_t1_body (F := F) xAll (Memref.isWhole_whole _) m1 hm1 m2 hm2 m3 hm3 m4 hm4 oAll (Memref.isWhole_whole _)
          xRing (Memref.isWhole_whole _) cc0_scoped1 oRing (Memref.isWhole_whole _) cc0_scoped3 k (carry k.val))
        fun acc => iprop(⌜acc = carry (k.val + 1)⌝ ∗ invAt c m1 m2 m3 m4 fx f1 f2 f3 f4 (k.val + 1)) := by
  have hk : k.val < 8 := Nat.lt_of_lt_of_eq k.isLt trips_eq
  unfold invAt
  rw [xCur, if_pos hk, oPrev_succ, ← xNext_eq, Ring.sl_succ_add 2 k.val 1 rfl]
  iintro ⟨⟨%W, Ho⟩, Hm, Hx, Hx1, Hxa, Hxb, Ho0, Hop, Hoa, Hob⟩
  iapply (trip c m1 m2 m3 m4 fx f1 f2 f3 f4 hm1 hm2 hm3 hm4 k W _)
  ihave Hxa2 := (xAhead_take c fx k.val) $$ Hxa
  icases Hxa2 with ⟨Hask, Hxa⟩
  ihave Hoa2 := (oAhead_take (F := F) c k.val hk) $$ Hoa
  icases Hoa2 with ⟨Hopen, Hoa⟩
  isplitl [Ho]; · iexact Ho
  isplitl [Hm]; · iexact Hm
  isplitl [Hask]; · iexact Hask
  isplitl [Hx1]; · iexact Hx1
  isplitl [Hx]; · iexact Hx
  isplitl [Hopen]; · iexact Hopen
  isplitl [Ho0]; · iexact Ho0
  isplitl [Hop]; · iexact Hop
  iintro ⟨Ho, Hm, Hh, Hf, Hn, Hfl, Hl, Hof⟩
  isplitr; · ipureintro; rfl
  isplitl [Ho]; · iexact Ho
  isplitl [Hm]; · iexact Hm
  isplitl [Hn]; · iexact Hn
  isplitl [Hf]; · iexact Hf
  isplitl [Hxa]; · iexact Hxa
  isplitl [Hh Hxb]
  · iapply (xBehind_put c fx k.val hk)
    isplitl [Hh]; · iexact Hh
    iexact Hxb
  isplitl [Hof]; · iexact Hof
  isplitl [Hfl]; · iexact Hfl
  isplitl [Hoa]; · iexact Hoa
  iapply (oBehind_put c m1 m2 m3 m4 fx f1 f2 f3 f4 k.val hk)
  isplitl [Hl]; · iexact Hl
  iexact Hob

end Loop

end Cert.KernelIdeal.Gen

end
-- ==== Proof.Blocks.lean ====
module

public import proofs.«01_k».proof.Proof.Loop

/-!
# Buffers by blocks and by slots

The input is its eight row blocks, the result its eight rows, and each ring its two slots.
-/

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk aheadSet behindSet)

variable {F : FTy → Type} [FloatOps F] [Named F]

local notation "𝕄" => MT nD τ sig Unit (Elt F) ℕ (Pipeline.UD sig nD τ) ℕ

/-! ## The elements of each -/

def xSlotSet (s : Fin 2) : Finset S2x4096x256.Idx := (Rect.unit (s := S2x4096x256) ![s.val, 0, 0] S1x4096x256.size (xSlot_inb s)).set
def oSlotSet (s : Fin 2) : Finset S2x1x1x4096.Idx := (Rect.unit (s := S2x1x1x4096) ![s.val, 0, 0, 0] S1x1x1x4096.size (oSlot_inb s)).set
def xBlkSet (b : Fin 8) : Finset S32768x256.Idx := (Rect.unit (s := S32768x256) ![4096 * b.val, 0] S4096x256.size (xBlk_inb b)).set
def oBlkSet (b : Fin 8) : Finset S8x1x4096.Idx := (Rect.unit (s := S8x1x4096) ![b.val, 0, 0] S1x1x4096.size (oBlk_inb b)).set

theorem xSlotSet_eq (s : Fin 2) : (xSlot s).view.set = xSlotSet s := (View.set_reshape _ _).trans (View.set_slice_whole _ _)
theorem oSlotSet_eq (s : Fin 2) : (oSlot s).view.set = oSlotSet s := (View.set_reshape _ _).trans (View.set_slice_whole _ _)
theorem xBlkSet_eq (b : Fin 8) : (xBlk b).view.set = xBlkSet b := View.set_slice_whole _ _
theorem oBlkSet_eq (b : Fin 8) : (oBlk b).view.set = oBlkSet b := View.set_slice_whole _ _

theorem xSlotSet_disj (s s' : Fin 2) (h : s ≠ s') : Disjoint (xSlotSet s) (xSlotSet s') :=
  Rect.unit_disjoint (s := S2x4096x256) (0 : Fin 3) (by have := Fin.val_ne_of_ne h; show s.val + 1 ≤ s'.val ∨ s'.val + 1 ≤ s.val; omega)
theorem oSlotSet_disj (s s' : Fin 2) (h : s ≠ s') : Disjoint (oSlotSet s) (oSlotSet s') :=
  Rect.unit_disjoint (s := S2x1x1x4096) (0 : Fin 4) (by have := Fin.val_ne_of_ne h; show s.val + 1 ≤ s'.val ∨ s'.val + 1 ≤ s.val; omega)
theorem xBlkSet_disj (b b' : Fin 8) (h : b ≠ b') : Disjoint (xBlkSet b) (xBlkSet b') :=
  Rect.unit_disjoint (s := S32768x256) (0 : Fin 2)
    (by have := Fin.val_ne_of_ne h; show 4096 * b.val + 4096 ≤ 4096 * b'.val ∨ 4096 * b'.val + 4096 ≤ 4096 * b.val; omega)
theorem oBlkSet_disj (b b' : Fin 8) (h : b ≠ b') : Disjoint (oBlkSet b) (oBlkSet b') :=
  Rect.unit_disjoint (s := S8x1x4096) (0 : Fin 3) (by have := Fin.val_ne_of_ne h; show b.val + 1 ≤ b'.val ∨ b'.val + 1 ≤ b.val; omega)

theorem xSlotSet_cover : Finset.univ.biUnion xSlotSet = Finset.univ := by
  ext i
  have h0 : (i 0).val < 2 := (i 0).isLt
  have h1 : (i 1).val < 4096 := (i 1).isLt
  have h2 : (i 2).val < 256 := (i 2).isLt
  simp only [Finset.mem_biUnion, Finset.mem_univ, true_and, iff_true]
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 4096; omega
  | ⟨2, _⟩ => show 0 ≤ (i 2).val ∧ (i 2).val < 0 + 256; omega
theorem oSlotSet_cover : Finset.univ.biUnion oSlotSet = Finset.univ := by
  ext i
  have h0 : (i 0).val < 2 := (i 0).isLt
  have h1 : (i 1).val < 1 := (i 1).isLt
  have h2 : (i 2).val < 1 := (i 2).isLt
  have h3 : (i 3).val < 4096 := (i 3).isLt
  simp only [Finset.mem_biUnion, Finset.mem_univ, true_and, iff_true]
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 1; omega
  | ⟨2, _⟩ => show 0 ≤ (i 2).val ∧ (i 2).val < 0 + 1; omega
  | ⟨3, _⟩ => show 0 ≤ (i 3).val ∧ (i 3).val < 0 + 4096; omega
theorem xBlkSet_cover : Finset.univ.biUnion xBlkSet = Finset.univ := by
  ext i
  have h0 : (i 0).val < 32768 := (i 0).isLt
  have h1 : (i 1).val < 256 := (i 1).isLt
  simp only [Finset.mem_biUnion, Finset.mem_univ, true_and, iff_true]
  refine ⟨⟨(i 0).val / 4096, by omega⟩, Rect.mem_set_unit.mpr fun a => ?_⟩
  match a with
  | ⟨0, _⟩ => show 4096 * ((i 0).val / 4096) ≤ (i 0).val ∧ (i 0).val < 4096 * ((i 0).val / 4096) + 4096; omega
  | ⟨1, _⟩ => show 0 ≤ (i 1).val ∧ (i 1).val < 0 + 256; omega
theorem oBlkSet_cover : Finset.univ.biUnion oBlkSet = Finset.univ := by
  ext i
  have h0 : (i 0).val < 8 := (i 0).isLt
  have h1 : (i 1).val < 1 := (i 1).isLt
  have h2 : (i 2).val < 4096 := (i 2).isLt
  simp only [Finset.mem_biUnion, Finset.mem_univ, true_and, iff_true]
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 1; omega
  | ⟨2, _⟩ => show 0 ≤ (i 2).val ∧ (i 2).val < 0 + 4096; omega

/-! ## The splits -/

section Split

variable (c : Dev nD)

/-- The input, by row blocks. -/
theorem x_split (fx : Buf (Elt F) (xAll.view.loc (c : Thread nD τ))) :
    (((c : Thread nD τ).loc main_arg0) ↦{fullShare} fx : sProp 𝕄) = bigSep Finset.univ (xHeld c fx) := by
  refine (Ring.pointsTo_blocks (ℓ := (c : Thread nD τ).loc main_arg0) xBlkSet xBlkSet_disj xBlkSet_cover fx).trans ?_
  refine congrArg (bigSep Finset.univ) (funext fun b => ?_)
  exact congrArg (fun I => ((c : Thread nD τ).loc main_arg0 ↦[I]{fullShare} fx : sProp 𝕄)) (xBlkSet_eq b).symm

theorem oOpen_of (b : Fin 8) (f : Buf (Elt F) ((c : Thread nD τ).loc main_v11)) :
    ((c : Thread nD τ).loc main_v11 ↦[oBlkSet b]{fullShare} f : sProp 𝕄)
      = ((oBlk b).view.loc (c : Thread nD τ) ↦[(oBlk b).view.set]{fullShare} f) :=
  congrArg (fun I => ((c : Thread nD τ).loc main_v11 ↦[I]{fullShare} f : sProp 𝕄)) (oBlkSet_eq b).symm

/-- The result at anything, by rows. -/
theorem o_split (f : Buf (Elt F) ((c : Thread nD τ).loc main_v11)) :
    (((c : Thread nD τ).loc main_v11) ↦{fullShare} f : sProp 𝕄) ⊢ bigSep Finset.univ (oOpen (F := F) c) := by
  refine (BIBase.Entails.of_eq (Ring.pointsTo_blocks (ℓ := (c : Thread nD τ).loc main_v11) oBlkSet oBlkSet_disj oBlkSet_cover f)).trans ?_
  refine bigSep_mono fun b _ => ?_
  rw [oOpen_of]
  show (_ : sProp 𝕄) ⊢ _
  iintro H; iexists f; iexact H

/-- Lane `r` of a row. -/
def rowIdx (r : Fin 4096) : S1x1x4096.Idx
  | ⟨0, _⟩ => (0 : Fin 1)
  | ⟨1, _⟩ => (0 : Fin 1)
  | ⟨2, _⟩ => r

/-- The result, from its eight rows. -/
def allRows (y : Fin 8 → Vec F S1x1x4096 .i32) : Buf (Elt F) ((c : Thread nD τ).loc main_v11) :=
  fun i : S8x1x4096.Idx => y (i 0) (rowIdx (i 2))

theorem allRows_read (y : Fin 8 → Vec F S1x1x4096 .i32) (b : Fin 8) : (oBlk b).view.read (Elt F) (allRows c y) = y b := by
  funext i
  have h0 : (i 0).val < 1 := (i 0).isLt
  have h1 : (i 1).val < 1 := (i 1).isLt
  have e0 : (show S8x1x4096.Idx from (oBlk b).view.emb i) 0 = b := Fin.ext (by show b.val + 1 * (i 0).val = b.val; omega)
  have e2 : (show S8x1x4096.Idx from (oBlk b).view.emb i) 2 = i 2 := Fin.ext (by show 0 + 1 * (i 2).val = (i 2).val; omega)
  show y ((show S8x1x4096.Idx from (oBlk b).view.emb i) 0) (rowIdx ((show S8x1x4096.Idx from (oBlk b).view.emb i) 2)) = y b i
  rw [e0, e2]
  congr 1
  funext a
  match a with
  | ⟨0, _⟩ => exact Fin.ext (by show 0 = (i 0).val; omega)
  | ⟨1, _⟩ => exact Fin.ext (by show 0 = (i 1).val; omega)
  | ⟨2, _⟩ => rfl

/-- The eight rows of the result, joined. -/
theorem o_join (y : Fin 8 → Vec F S1x1x4096 .i32) :
    (bigSep Finset.univ fun b => oDone c b (y b) : sProp 𝕄) = (((c : Thread nD τ).loc main_v11) ↦{fullShare} allRows c y) := by
  refine (Eq.trans ?_ (Ring.pointsTo_blocks (ℓ := (c : Thread nD τ).loc main_v11) oBlkSet oBlkSet_disj oBlkSet_cover (allRows c y)).symm)
  refine congrArg (bigSep Finset.univ) (funext fun b => ?_)
  rw [oOpen_of]
  refine Eq.trans ?_ (pointsTo_rep (Ix := Unit) (Name := ℕ) (U := Pipeline.UD sig nD τ) (Lvl := ℕ) (c : Thread nD τ) (oBlk b) _ _).symm
  rw [allRows_read]

/-- A slot of the input ring, or of the result ring, at some contents. -/
abbrev xAny (s : Fin 2) : sProp 𝕄 := iprop(∃ f, (xSlot s).view.loc (c : Thread nD τ) ↦[(xSlot s).view.set]{fullShare} f)
abbrev oAny (s : Fin 2) : sProp 𝕄 := iprop(∃ f, (oSlot s).view.loc (c : Thread nD τ) ↦[(oSlot s).view.set]{fullShare} f)

theorem xAny_eq (s : Fin 2) : (xAny c s : sProp 𝕄)
    = iprop(∃ f, (c : Thread nD τ).loc cc0_scoped0 ↦[xSlotSet s]{fullShare} f) :=
  congrArg (fun I => iprop(∃ f, (c : Thread nD τ).loc cc0_scoped0 ↦[I]{fullShare} f : sProp 𝕄)) (xSlotSet_eq s)
theorem oAny_eq (s : Fin 2) : (oAny c s : sProp 𝕄)
    = iprop(∃ f, (c : Thread nD τ).loc cc0_scoped2 ↦[oSlotSet s]{fullShare} f) :=
  congrArg (fun I => iprop(∃ f, (c : Thread nD τ).loc cc0_scoped2 ↦[I]{fullShare} f : sProp 𝕄)) (oSlotSet_eq s)

theorem two_eq (P : Fin 2 → sProp 𝕄) : bigSep Finset.univ P = iprop(P 0 ∗ P 1) :=
  bigSep_univ_eq_bigSepL [(0 : Fin 2), (1 : Fin 2)] (by decide) (by decide) P

/-- The input ring, by slots, -/
theorem xRing_split (f : Buf (Elt F) ((c : Thread nD τ).loc cc0_scoped0)) :
    (((c : Thread nD τ).loc cc0_scoped0) ↦{fullShare} f : sProp 𝕄) ⊢ iprop(xAny c 0 ∗ xAny c 1) := by
  rw [← two_eq (xAny c)]
  refine (BIBase.Entails.of_eq (Ring.pointsTo_blocks (ℓ := (c : Thread nD τ).loc cc0_scoped0) xSlotSet xSlotSet_disj xSlotSet_cover f)).trans ?_
  refine bigSep_mono fun b _ => ?_
  rw [xAny_eq]
  show (_ : sProp 𝕄) ⊢ _
  iintro H; iexists f; iexact H
/-- and back. -/
theorem xRing_join : iprop(xAny c 0 ∗ xAny c 1) ⊢ (iprop(∃ f, ((c : Thread nD τ).loc cc0_scoped0) ↦{fullShare} f) : sProp 𝕄) := by
  rw [← two_eq (xAny c), show xAny c = _ from funext (xAny_eq (F := F) c)]
  iintro H
  ihave H2 := (Ring.pointsTo_blocks_join_exists (ℓ := (c : Thread nD τ).loc cc0_scoped0) xSlotSet xSlotSet_disj xSlotSet_cover
    (fun _ => default)) $$ H
  iexact H2
/-- The result ring, by slots, -/
theorem oRing_split (f : Buf (Elt F) ((c : Thread nD τ).loc cc0_scoped2)) :
    (((c : Thread nD τ).loc cc0_scoped2) ↦{fullShare} f : sProp 𝕄) ⊢ iprop(oAny c 0 ∗ oAny c 1) := by
  rw [← two_eq (oAny c)]
  refine (BIBase.Entails.of_eq (Ring.pointsTo_blocks (ℓ := (c : Thread nD τ).loc cc0_scoped2) oSlotSet oSlotSet_disj oSlotSet_cover f)).trans ?_
  refine bigSep_mono fun b _ => ?_
  rw [oAny_eq]
  show (_ : sProp 𝕄) ⊢ _
  iintro H; iexists f; iexact H
/-- and back. -/
theorem oRing_join : iprop(oAny c 0 ∗ oAny c 1) ⊢ (iprop(∃ f, ((c : Thread nD τ).loc cc0_scoped2) ↦{fullShare} f) : sProp 𝕄) := by
  rw [← two_eq (oAny c), show oAny c = _ from funext (oAny_eq (F := F) c)]
  iintro H
  ihave H2 := (Ring.pointsTo_blocks_join_exists (ℓ := (c : Thread nD τ).loc cc0_scoped2) oSlotSet oSlotSet_disj oSlotSet_cover
    (fun _ => default)) $$ H
  iexact H2

end Split

end Cert.KernelIdeal.Gen

end
-- ==== Proof.Run.lean ====
module

public import proofs.«01_k».proof.Proof.Blocks
public import proofs.«01_k».proof.Proof.Gen.KernelIdeal.Frame

/-!
# The body, whole

The first row block is asked for, the loop runs, the last row of the result is waited for.
-/

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk aheadSet behindSet)

variable {F : FTy → Type} [FloatOps F] [Named F]

local notation "𝕄" => MT nD τ sig Unit (Elt F) ℕ (Pipeline.UD sig nD τ) ℕ

theorem off1_eq : k0_off1 = ![(sl 2 0).val] := by decide +kernel
theorem off2_eq : k0_off2 = ![(sl 2 0).val, 0, 0] := by decide +kernel
theorem off0_eq : (![0, 0] : Fin 2 → ℕ) = ![4096 * (bk 8 0).val, 0] := by decide +kernel
theorem off17_eq : k0_off17 (carry 8).2.2.2.1 = ![(sl 2 9).val] := by decide +kernel
theorem off18_eq : k0_off18 (carry 8).2.2.2.2 = ![(bk 8 7).val, 0, 0] := by decide +kernel
theorem off19_eq : k0_off19 (carry 8).2.2.2.1 = ![(sl 2 9).val, 0, 0, 0] := by decide +kernel
theorem chk5_ok : k0_chk5 (carry 8).2.2.2.2 := by decide +kernel
theorem chk4_ok : k0_chk4 (carry 8).2.2.2.1 := by decide +kernel
theorem carry_zero : (Scalar.addi 0#32 1#32, 0#32, 0#32, 0#32, 0#32) = carry 0 := by decide +kernel
theorem sl_8 : sl 2 8 = 0 := by decide
theorem sl_9 : sl 2 9 = 1 := by decide
theorem sl_0 : sl 2 0 = 0 := by decide
theorem sl_1 : sl 2 (0 + 1) = 1 := by decide

section Body

variable (c : Dev nD) (m1 : Memref sig .tc .vmem S64x128 .f32) (m2 : Memref sig .tc .vmem S64x1 .f32)
  (m3 : Memref sig .tc .vmem S512x128 .bf16) (m4 : Memref sig .tc .vmem S512x1 .bf16)
  (fx : Buf (Elt F) (xAll.view.loc (c : Thread nD τ)))
  (f1 : Buf (Elt F) (m1.view.loc (c : Thread nD τ))) (f2 : Buf (Elt F) (m2.view.loc (c : Thread nD τ)))
  (f3 : Buf (Elt F) (m3.view.loc (c : Thread nD τ))) (f4 : Buf (Elt F) (m4.view.loc (c : Thread nD τ)))

/-- The four semaphores at zero. -/
abbrev cellsZero : sProp 𝕄 :=
  iprop(semVal ((c : Thread nD τ), SemLoc.dma (xCell 0)) 0 ∗ semVal ((c : Thread nD τ), SemLoc.dma (xCell 1)) 0
    ∗ semVal ((c : Thread nD τ), SemLoc.dma (oCell 0)) 0 ∗ semVal ((c : Thread nD τ), SemLoc.dma (oCell 1)) 0)

/-- The two rings at anything. -/
abbrev ringsAny : sProp 𝕄 :=
  iprop((∃ f, ((c : Thread nD τ).loc cc0_scoped0) ↦{fullShare} f) ∗ (∃ f, ((c : Thread nD τ).loc cc0_scoped2) ↦{fullShare} f))

theorem xAhead_start : (bigSep Finset.univ (xHeld c fx) : sProp 𝕄) ⊢ iprop(xHeld c fx (bk 8 0) ∗ xAhead c fx 0) := by
  unfold xAhead
  rw [← Ring.aheadSet_zero (NB := 8), Ring.aheadSet_open (NB := 8) 0 (by omega),
    bigSep_insert (Ring.bk_not_mem_aheadSet_succ (NB := 8) 0 (by omega))]
  exact .rfl

theorem oBehind_end :
    iprop(oDone c (bk 8 7) (rowOut c m1 m2 m3 m4 fx f1 f2 f3 f4 (bk 8 7)) ∗ oBehind c m1 m2 m3 m4 fx f1 f2 f3 f4 8)
      ⊢ (bigSep Finset.univ fun b => oDone c b (rowOut c m1 m2 m3 m4 fx f1 f2 f3 f4 b) : sProp 𝕄) := by
  unfold oBehind
  rw [show (Finset.univ : Finset (Fin 8)) = insert (bk 8 7) (behindSet (NB := 8) 1 8) by decide,
    bigSep_insert (by decide : bk 8 7 ∉ behindSet (NB := 8) 1 8)]
  exact .rfl

set_option maxHeartbeats 1000000 in
/-- The body's run. -/
theorem body_run (hm1 : m1.IsWhole) (hm2 : m2.IsWhole) (hm3 : m3.IsWhole) (hm4 : m4.IsWhole)
    (W : Waits sig Unit) (K : PUnit → sProp 𝕄) :
    iprop(owes (c : Thread nD τ) 0 W ∗ opsHeld c m1 m2 m3 m4 f1 f2 f3 f4
      ∗ (((c : Thread nD τ).loc main_arg0) ↦{fullShare} fx) ∗ (∃ f, ((c : Thread nD τ).loc main_v11) ↦{fullShare} f)
      ∗ ringsAny (F := F) c ∗ cellsZero c
      ∗ (iprop((∃ W, owes (c : Thread nD τ) 0 W) ∗ opsHeld c m1 m2 m3 m4 f1 f2 f3 f4
          ∗ (((c : Thread nD τ).loc main_arg0) ↦{fullShare} fx)
          ∗ (((c : Thread nD τ).loc main_v11) ↦{fullShare} allRows c (rowOut c m1 m2 m3 m4 fx f1 f2 f3 f4))
          ∗ ringsAny (F := F) c ∗ cellsZero c) -∗ K ⟨⟩))
      ⊢ wp frame (wpE defs₀ Variants.none (c : Thread nD τ) none) Set.univ
        (cc0__outer_kernel (F := F) xAll (Memref.isWhole_whole _) m1 hm1 m2 hm2 m3 hm3 m4 hm4 oAll (Memref.isWhole_whole _)
          xRing (Memref.isWhole_whole _) cc0_scoped1 oRing (Memref.isWhole_whole _) cc0_scoped3) K := by
  rw [x_split, ← o_join]
  simp only [cc0__outer_kernel_eq_skeleton, cc0__outer_kernel_skel, k0_part4_eq_skeleton, k0_part4_skel, bind_assoc, pure_bind]
  simp only [xSlot_of _ _ _ off2_eq, xBlk_of _ _ _ off0_eq, xCell_of _ _ _ off1_eq, carry_zero]
  iintro ⟨Ho, Hm, Hx, ⟨%fo, Hv⟩, ⟨⟨%r0, Hr0⟩, ⟨%r2, Hr2⟩⟩, ⟨Hc0, Hc1, Hd0, Hd1⟩, Hk⟩
  ihave Hx2 := (xAhead_start c fx) $$ Hx
  icases Hx2 with ⟨Hx0, Hxa⟩
  ihave Hv2 := (o_split (F := F) c fo) $$ Hv
  ihave Hr := (xRing_split (F := F) c r0) $$ Hr0
  icases Hr with ⟨⟨%g0, Hs0⟩, Hs1⟩
  ihave Hr := (oRing_split (F := F) c r2) $$ Hr2
  icases Hr with ⟨Ht0, Ht1⟩
  rw [← sl_0]
  sl_exec
  sl_for (fun k acc => iprop(⌜acc = carry k⌝ ∗ invAt c m1 m2 m3 m4 fx f1 f2 f3 f4 k)) $$ [Ho Hm Hc0 Hs1 Hxa Hc1 Hd0 Ht0 Hd1 Ht1 Hv2]
  case region =>
    intro k acc
    iintro ⟨%h, H⟩
    subst h
    sl_unfold_run_names
    iapply (inv_step c m1 m2 m3 m4 fx f1 f2 f3 f4 hm1 hm2 hm3 hm4 k)
    iexact H
  · sl_unfold_run_names
    unfold invAt
    isplitr; · ipureintro; rfl
    isplitl [Ho]; · iexists _; iexact Ho
    isplitl [Hm]; · iexact Hm
    isplitl [Hc0]
    · rw [xCur, if_pos (by omega)]
      iexists g0
      iexact Hc0
    isplitl [Hc1 Hs1]
    · rw [sl_1]
      isplitl [Hc1]; · iexact Hc1
      iexact Hs1
    isplitl [Hxa]; · iexact Hxa
    isplitr
    · unfold xBehind
      rw [Ring.behindSet_boot 0 0 (by omega), bigSep_empty]
      iempintro
    isplitl [Hd0 Ht0]
    · isplitl [Hd0]; · iexact Hd0
      iexact Ht0
    isplitl [Hd1 Ht1]
    · rw [oPrev, if_neg (by omega), sl_1]
      isplitl [Hd1]; · iexact Hd1
      iexact Ht1
    isplitl [Hv2]
    · unfold oAhead
      rw [Ring.aheadSet_zero]
      iexact Hv2
    unfold oBehind
    rw [Ring.behindSet_boot 1 0 (by omega), bigSep_empty]
    iempintro
  rw [show Scf.trips k0_t1_loop.lb k0_t1_loop.ub k0_t1_loop.st = 8 from trips_eq]
  iintro %acc ⟨%h, H⟩
  subst h
  unfold invAt
  rw [xCur, if_neg (by omega), oPrev, if_pos (by omega)]
  icases H with ⟨⟨%W', Ho⟩, Hm, ⟨Hc0, Hs0⟩, ⟨Hc1, Hs1⟩, -, Hxb, ⟨Hd0, Ht0⟩, ⟨%fp, %gp, %hgp, Hd1⟩, -, Hob⟩
  sl_unfold_run_names
  have o17 := off17_eq
  have o18 := off18_eq
  have o19 := off19_eq
  have g4 := chk4_ok
  have g5 := chk5_ok
  generalize carry 8 = w at *
  obtain ⟨a7, a8, a9, a10, a11⟩ := w
  dsimp only at o17 o18 o19 g4 g5
  dsimp only
  simp only [oSlot_of _ _ _ o19, oBlk_of _ _ _ o18, oCell_of _ _ _ o17]
  sl_exec
  sl_step
  iapply Hk
  isplitl [Ho]; · iexists _; iexact Ho
  isplitl [Hm]; · iexact Hm
  isplitl [Hxb]
  · unfold xBehind
    rw [show behindSet (NB := 8) 0 8 = Finset.univ by decide]
    iexact Hxb
  isplitl [Hob Hd1_dst]
  · iapply (oBehind_end c m1 m2 m3 m4 fx f1 f2 f3 f4)
    isplitl [Hd1_dst]
    · rw [← oDone_of_landed c _ _ fp]
      rw [hgp]
      iexact Hd1_dst
    iexact Hob
  isplitl [Hs0 Hs1 Ht0 Hd1_src]
  · isplitl [Hs0 Hs1]
    · iapply (xRing_join (F := F) c)
      isplitl [Hs0]; · iexact Hs0
      iexact Hs1
    iapply (oRing_join (F := F) c)
    isplitl [Ht0]; · iexact Ht0
    iexists gp; iexact Hd1_src
  isplitl [Hc0]; · iexact Hc0
  isplitl [Hc1]; · iexact Hc1
  isplitl [Hd0]; · iexact Hd0
  iexact Hd1

end Body

end Cert.KernelIdeal.Gen

end
-- ==== Proof.Launch.lean ====
module

public import proofs.«01_k».proof.Proof.Run

/-!
# The launch

The whole program from any memory: the arguments as they were, the semaphores at zero, and the result
the reshape of the eight rows the body computes.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The kernel's own semaphores, the buffer it reads and the buffer it writes outside its windows. -/
abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
abbrev H0 : Finset (Ref sig .tc) := {main_arg0}
abbrev R0 : Finset (Ref sig .tc) := {main_v11}
theorem H0_sub : H0 ⊆ Pipeline.restRefs sig spec0 := by decide
theorem R0_sub : R0 ⊆ Pipeline.restRefs sig spec0 \ H0 := by decide

theorem ownSems0_eq (c : Dev nD) :
    (Pipeline.ownSems0 (Ix := Unit) (Name := ℕ) (U := Pipeline.UD sig nD τ) (Lvl := ℕ) (Val := Elt F) (τ := τ) osem0 c : sProp 𝕄) = cellsZero c := by
  rw [Pipeline.ownSems0_eq_of_list c osem0 [0, 1, 2, 3] (by decide) (by decide)]; rfl

variable (m : (ℓ : Loc nD τ sig) → Buf (Elt F) ℓ) (ρ : Dev nD → PrngReg)

/-- Row `b` of the result, from the memory the call starts at. -/
def rowAt (c : Dev nD) (b : Fin 8) : Vec F S1x1x4096 .i32 :=
  rowVal (rowsOf c (V m c main_arg0) b) (iblk m c 0 t0_0) (iblk m c 1 t0_0) (iblk m c 2 t0_0) (iblk m c 3 t0_0)

/-- The buffers after the call. -/
def G (c : Dev nD) : (b : Ref sig .tc) → Buf (Elt F) ((c : Thread nD τ).loc b) :=
  Function.update (V m c) main_v11 (allRows c (rowAt m c))

theorem G_v11 (c : Dev nD) : G m c main_v11 = allRows c (rowAt m c) := by
  unfold G; exact Function.update_self _ _ _

/-- What goes around the body: the rings, the semaphores, the input, and the result at `g`. -/
abbrev Phi (g : (c : Dev nD) → (b : Ref sig .tc) → Buf (Elt F) ((c : Thread nD τ).loc b)) (c : Dev nD) : sProp 𝕄 :=
  Pipeline.ΦDRV osem0 spec0 H0 R0 (V m) g c

theorem Phi_eq (g : (c : Dev nD) → (b : Ref sig .tc) → Buf (Elt F) ((c : Thread nD τ).loc b)) (c : Dev nD) :
    (Phi m g c : sProp 𝕄) = iprop(ringsAny (F := F) c ∗ cellsZero c ∗ (((c : Thread nD τ).loc main_arg0) ↦{fullShare} V m c main_arg0)
      ∗ (((c : Thread nD τ).loc main_v11) ↦{fullShare} g c main_v11)) := by
  unfold Phi Pipeline.ΦDRV
  rw [scopedRest0_eq, ownSems0_eq, BI.bigSep_eq_bigSepL_of_eq (S := H0) [main_arg0] (by decide) (by decide),
    BI.bigSep_eq_bigSepL_of_eq (S := R0) [main_v11] (by decide) (by decide)]
  rfl

/-- The data of the call: the windows stay as they are. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then Phi m (V m) c else Phi m (G m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem Phi_start (c : Dev nD) : (dats m 0 c).Φ 0 = Phi m (V m) c := by dsimp only [dats]; exact if_pos rfl
theorem Phi_end (c : Dev nD) : (dats m 0 c).Φ (Fin.last cfg0.N) = Phi m (G m) c := by dsimp only [dats]; exact if_neg (by decide)

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem point_eq (t : Fin cfg0.N) : t = t0_0 := by
  apply Fin.ext
  have h : t.val < 1 := Nat.lt_of_lt_of_eq t.isLt N_0
  show t.val = 0
  omega

attribute [local irreducible] rowVal rowsOf

theorem rowOut_eq (c : Dev nD) (m1 : Memref sig .tc .vmem S64x128 .f32) (m2 : Memref sig .tc .vmem S64x1 .f32)
    (m3 : Memref sig .tc .vmem S512x128 .bf16) (m4 : Memref sig .tc .vmem S512x1 .bf16)
    (fx : Buf (Elt F) (xAll.view.loc (c : Thread nD τ)))
    (f1 : Buf (Elt F) (m1.view.loc (c : Thread nD τ))) (f2 : Buf (Elt F) (m2.view.loc (c : Thread nD τ)))
    (f3 : Buf (Elt F) (m3.view.loc (c : Thread nD τ))) (f4 : Buf (Elt F) (m4.view.loc (c : Thread nD τ))) (b : Fin 8) :
    rowOut c m1 m2 m3 m4 fx f1 f2 f3 f4 b = rowVal (rowsOf c fx b) (m1.view.read (Elt F) f1) (m2.view.read (Elt F) f2)
      (m3.view.read (Elt F) f3) (m4.view.read (Elt F) f4) := by
  unfold rowOut
  rw [View.readAt_full m1.view, View.readAt_full m2.view, View.readAt_full m3.view, View.readAt_full m4.view]

theorem owns_univ (c : Dev nD) {s : Shape} {e : EltTy} (M : Memref sig .tc .vmem s e) (h : M.IsWhole) (x : s.Idx → Elt F e) :
    (owns (c : Thread nD τ) M fullShare x : sProp 𝕄)
      = iprop(∃ f, ⌜M.view.read (Elt F) f = x⌝ ∗ (M.view.loc (c : Thread nD τ) ↦[Finset.univ]{fullShare} f)) := by
  unfold owns
  rw [Memref.IsWhole.set_eq_univ h]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  obtain rfl := point_eq t
  unfold bodyPre bodyPost bodyAt0
  simp only [before_0, before_1, before_2, before_3, after_0, after_1, after_2, after_3]
  rw [show (dats m 0 c).Φ (t0_0 : Fin cfg0.N).castSucc = Phi m (V m) c from Phi_start m c,
    show (dats m 0 c).Φ (t0_0 : Fin cfg0.N).succ = Phi m (G m) c from Phi_end m c, Phi_eq, Phi_eq, G_v11]
  unfold Dat.owesAt Pipeline.owesWithin
  rw [show (dats m 0 c).owed (t0_0 : Fin cfg0.N).castSucc = 0 from rfl, show (dats m 0 c).owed (t0_0 : Fin cfg0.N).succ = 0 from rfl]
  rw [owns_univ c (st0_0 t0_0) (hstage0_0 0), owns_univ c (st0_1 t0_0) (hstage0_1 0), owns_univ c (st0_2 t0_0) (hstage0_2 0),
    owns_univ c (st0_3 t0_0) (hstage0_3 0)]
  iintro ⟨⟨Hr, Hc, Hx, Hv⟩, ⟨%W, -, HW⟩, ⟨%d1, %f1, %e1, H1⟩, ⟨%d2, %f2, %e2, H2⟩, ⟨%d3, %f3, %e3, H3⟩, ⟨%d4, %f4, %e4, H4⟩⟩
  have hrow : rowAt m c = rowOut c (st0_0 t0_0) (st0_1 t0_0) (st0_2 t0_0) (st0_3 t0_0) (V m c main_arg0) f1 f2 f3 f4 := by
    funext b
    rw [rowOut_eq, e1, e2, e3, e4]; rfl
  rw [hrow]
  iapply (body_run c (st0_0 t0_0) (st0_1 t0_0) (st0_2 t0_0) (st0_3 t0_0) (V m c main_arg0) f1 f2 f3 f4 _ _ _ _ W _)
  isplitl [HW]; · iexact HW
  isplitl [H1 H2 H3 H4]
  · isplitl [H1]; · iexact H1
    isplitl [H2]; · iexact H2
    isplitl [H3]; · iexact H3
    iexact H4
  isplitl [Hx]; · iexact Hx
  isplitl [Hv]; · iexists _; iexact Hv
  isplitl [Hr]; · iexact Hr
  isplitl [Hc]; · iexact Hc
  iintro ⟨⟨%W', HW'⟩, ⟨H1, H2, H3, H4⟩, Hx, Hv, Hr, Hc⟩
  isplitl [Hr Hc Hx Hv]
  · isplitl [Hr]; · iexact Hr
    isplitl [Hc]; · iexact Hc
    isplitl [Hx]; · iexact Hx
    iexact Hv
  isplitl [HW']
  · iexists W'; isplitr; · ipureintro; exact fun _ _ => Or.inl trivial
    iexact HW'
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists f4; isplitr; · ipureintro; exact e4
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- The run of the whole program. -/
theorem run_raw : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (Pipeline.withArrays spec0 c (Pipeline.withR (V0 m c) R0 c (G m c)) fun w => (dats m 0 c).arrAt w cfg0.N) (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V0 m) [hostOps1] sfx_sub sfx_fresh sfx_keeps (G m) (hmain := hmainD m) (hA := A_eq m)
    (hin := fun c => Entails.of_eq (Phi_start m c).symm) (hout := fun c => Entails.of_eq (Phi_end m c))

end Cert.KernelIdeal.Gen

end
-- ==== Proof.Final.lean ====
module

public import proofs.«01_k».proof.Proof.Launch
public import Idealize.ShloMosaic.Lib.Claim

/-!
# What the program leaves

The arguments, the semaphores and the result, in the memory the program starts at.
-/

@[expose] public section

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F] [Named F]

variable (m : (ℓ : Loc nD τ sig) → Buf (Elt F) ℓ) (ρ : Dev nD → PrngReg)

/-- The second centers, as one matrix of 512 rows. -/
def c2Rows (w : Vec F S64x8x128 .f32) : Vec F S512x128 .f32 := shapeCast S512x128 w shapeCasts_S64x8x128_S512x128
/-- The squared lengths of the first centers. -/
def n1Col (w : Vec F S64x128 .f32) : Vec F S64x1 .f32 :=
  broadcastInDim S64x1 ![0] bcast_S64_S64x1_0 (Host.reduceAdd (mulf w w) (constant S_ .f32 0x00000000#32) reducesTo_S64x128_S64_d1 h_S_)
/-- The second centers, times minus two. -/
def c2Scaled (w : Vec F S64x8x128 .f32) : Vec F S512x128 .bf16 :=
  truncf .bf16 (mulf (broadcastInDim S512x128 ![] bcast_S_S512x128 (constant S_ .f32 0xC0000000#32)) (c2Rows w)) bitsLt_bf16_f32
/-- The squared lengths of the second centers. -/
def n2Col (w : Vec F S64x8x128 .f32) : Vec F S512x1 .bf16 :=
  truncf .bf16 (broadcastInDim S512x1 ![0] bcast_S512_S512x1_0
    (Host.reduceAdd (mulf (c2Rows w) (c2Rows w)) (constant S_ .f32 0x00000000#32) reducesTo_S512x128_S512_d1 h_S_)) bitsLt_bf16_f32

theorem tail_v12 (c : Dev nD) (W : Valuation τ sig (Elt F)) (g : Vec F S8x1x4096 .i32)
    (h : W (Proc.devRef .tc main_v11) = g) :
    StableHlo.after (List.flatten [hostOps1]) W (Proc.devRef .tc main_v12) = (shapeCast S32768 g shapeCasts_S8x1x4096_S32768 : Vec F S32768 .i32) := by
  simp only [hostOps1, List.flatten_cons, List.flatten_nil, List.append_nil, List.cons_append, List.nil_append]
  after_results
  rw [h]
  rfl

theorem V_v3 (c : Dev nD) : V m c main_v3 = n1Col (m ((c : Thread nD τ).loc main_arg1)) := by
  simp only [V, V0, hostOps0, List.flatten_cons, List.flatten_nil, List.append_nil, List.cons_append, List.nil_append]
  after_results
  rfl
theorem V_v8 (c : Dev nD) : V m c main_v8 = c2Scaled (m ((c : Thread nD τ).loc main_arg2)) := by
  simp only [V, V0, hostOps0, List.flatten_cons, List.flatten_nil, List.append_nil, List.cons_append, List.nil_append]
  after_results
  rfl
theorem V_v10 (c : Dev nD) : V m c main_v10 = n2Col (m ((c : Thread nD τ).loc main_arg2)) := by
  simp only [V, V0, hostOps0, List.flatten_cons, List.flatten_nil, List.append_nil, List.cons_append, List.nil_append]
  after_results
  rfl

/-! The four windows hold whole arrays. -/

theorem win_0 (c : Dev nD) : iblk m c 0 t0_0 = V m c main_arg1 := by
  funext i
  unfold iblk
  rw [View.read_apply]
  refine congrArg (V m c main_arg1) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem win_1 (c : Dev nD) : iblk m c 1 t0_0 = V m c main_v3 := by
  funext i
  unfold iblk
  rw [View.read_apply]
  refine congrArg (V m c main_v3) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem win_2 (c : Dev nD) : iblk m c 2 t0_0 = V m c main_v8 := by
  funext i
  unfold iblk
  rw [View.read_apply]
  refine congrArg (V m c main_v8) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

theorem win_3 (c : Dev nD) : iblk m c 3 t0_0 = V m c main_v10 := by
  funext i
  unfold iblk
  rw [View.read_apply]
  refine congrArg (V m c main_v10) (funext fun a => Fin.ext ?_)
  match a with
  | ⟨0, _⟩ => exact (congrArg (_ + ·) (Nat.one_mul _)).trans (Nat.zero_add _)
  | ⟨1, _⟩ => exact (congrArg (_ + ·) (Nat.one_mul _)).trans (Nat.zero_add _)

/-- Row `b` of the result, from the arguments. -/
theorem rowAt_eq (c : Dev nD) (b : Fin 8) : rowAt m c b = rowVal (rowsOf c (m ((c : Thread nD τ).loc main_arg0)) b)
    (m ((c : Thread nD τ).loc main_arg1)) (n1Col (m ((c : Thread nD τ).loc main_arg1)))
    (c2Scaled (m ((c : Thread nD τ).loc main_arg2))) (n2Col (m ((c : Thread nD τ).loc main_arg2))) := by
  unfold rowAt
  rw [V_main_arg0, win_0, win_1, win_2, win_3, V_main_arg1, V_v3, V_v8, V_v10]

theorem after_keeps (W : Valuation τ sig (Elt F)) (b : Ref sig .tc) (h : b ≠ main_v12) :
    StableHlo.after (List.flatten [hostOps1]) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne h))

/-- The program ends with its arguments as they were, every semaphore zero and the result in place. -/
theorem run_main : θ_run defs (onTc (τ := τ) (main (F := F))) ⟨m, fun _ => 0, ρ⟩ (fun r =>
    (∀ c : Dev nD, r.2.mem ((c.tc : Thread nD τ).loc main_v12)
        = (shapeCast S32768 (show Vec F S8x1x4096 .i32 from allRows c (rowAt m c)) shapeCasts_S8x1x4096_S32768 : Vec F S32768 .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  refine (θ_run defs _ _).mono (fun r h => ⟨fun c => ⟨?_, ?_, ?_, ?_⟩, h.2⟩) (run_raw m ρ)
  · rw [(h.1 c).2 main_v12 (Pipeline.mem_restRefs_of main_v12 (by decide) (by decide))]
    refine tail_v12 c _ _ ?_
    rw [Pipeline.withArrays_of_ne _ c _ _ main_v11 (by exact (by decide : ∀ w, Pipeline.arrRef spec0 w ≠ main_v11)),
      Pipeline.withR_of_mem _ _ _ _ main_v11 (by decide)]
    exact G_v11 m c
  · rw [(h.1 c).2 main_arg0 (Pipeline.mem_restRefs_of main_arg0 (by decide) (by decide)), after_keeps _ _ (by decide),
      Pipeline.withArrays_of_ne _ c _ _ main_arg0 (by exact (by decide : ∀ w, Pipeline.arrRef spec0 w ≠ main_arg0)),
      Pipeline.withR_of_not_mem _ _ _ _ main_arg0 (by decide)]
    exact V_main_arg0 m c
  · exact ((h.1 c).1 0).trans (((dats m 0 c).arrAt_in 0 rfl _).trans ((A_eq m c 0).trans (V_main_arg1 m c)))
  · rw [(h.1 c).2 main_arg2 (Pipeline.mem_restRefs_of main_arg2 (by decide) (by decide)), after_keeps _ _ (by decide),
      Pipeline.withArrays_of_ne _ c _ _ main_arg2 (by exact (by decide : ∀ w, Pipeline.arrRef spec0 w ≠ main_arg2)),
      Pipeline.withR_of_not_mem _ _ _ _ main_arg2 (by decide)]
    exact V_main_arg2 m c

/-- The program ends with its arguments as they were and every semaphore zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => (h.1 c).2, h.2⟩) (run_main m ρ)

end Cert.KernelIdeal.Gen

end
-- ==== Proof.Arg.lean ====
module

public import Idealize.ShloMosaic.Lib.Pointwise
public import Idealize.ShloMosaic.Lib.ReduceAll

/-!
# The first least entry

An index is the first least entry of a finite family of extended reals when nothing is below it and
everything before it is above it. Both spellings of an arg-min, and a fold of minima, are read through
this one notion.
-/

@[expose] public section

namespace Cert.Value

open Idealize.ShloMosaic Idealize.ShloMosaic.Pointwise

/-- `k` is where `f` is least, and no earlier index reaches that value. -/
structure First {n : Nat} (f : Fin n → EReal) (k : Fin n) : Prop where
  least : ∀ j, f k ≤ f j
  before : ∀ j, j < k → f k < f j

/-- A nonempty finite family has a first least entry. -/
theorem exists_first {n : Nat} [NeZero n] (f : Fin n → EReal) : ∃ k, First f k := by
  classical
  obtain ⟨m, -, hm⟩ := Finset.exists_min_image (Finset.univ : Finset (Fin n)) f ⟨0, Finset.mem_univ _⟩
  have hne : (Finset.univ.filter fun k : Fin n => ∀ j, f k ≤ f j).Nonempty :=
    ⟨m, by simpa using fun j => hm j (Finset.mem_univ j)⟩
  obtain ⟨k, hk, hmin⟩ := Finset.exists_min_image _ id hne
  have hk' : ∀ j, f k ≤ f j := by simpa using hk
  refine ⟨k, hk', fun j hj => lt_of_le_of_ne (hk' j) fun e => ?_⟩
  have : k ≤ j := hmin j (by simpa using fun i => e ▸ hk' i)
  exact absurd hj (not_lt.mpr this)

/-- Two families ordered alike have the same first least entry. -/
theorem First.congr {n : Nat} {f g : Fin n → EReal} {k : Fin n} (h : First f k)
    (hle : ∀ i j, f i ≤ f j ↔ g i ≤ g j) : First g k :=
  ⟨fun j => (hle k j).1 (h.least j), fun j hj => lt_of_not_ge fun e =>
    absurd ((hle j k).2 e) (not_le.mpr (h.before j hj))⟩

/-- A fold of minima from above everything is the least value. -/
theorem fold_min_eq {n : Nat} (f : Fin n → EReal) (k : Fin n) (h : ∀ j, f k ≤ f j) :
    (Finset.univ : Finset (Fin n)).fold min ⊤ f = f k := by
  apply le_antisymm
  · exact Finset.fold_min_le _ |>.2 (Or.inr ⟨k, Finset.mem_univ _, le_rfl⟩)
  · exact Finset.le_fold_min _ |>.2 ⟨le_top, fun j _ => h j⟩

/-- The lowest index of least value along the first axis of a matrix. -/
theorem reduceIndex_eq {a b : Nat} {t : Shape} (h : (⟨2, ![a, b]⟩ : Shape).Reduces [0] t)
    (x : (⟨2, ![a, b]⟩ : Shape).Idx → EReal) (j : t.Idx) (c : Fin b)
    (hc : c.val = (j ⟨0, h.lt_r2_a0_0⟩).val) (k : Fin a) (hk : First (fun i => x (ix2 i c)) k) :
    Ideal.reduceIndex .argMin 0 h x j = BitVec.ofNat 32 k.val := by
  classical
  have hfib : ∀ i, h.drop i = j ↔ ∃ r : Fin a, ix2 r c = i := by
    intro i
    rw [h.fiber_r2_a0 j i]
    have : (⟨(j ⟨0, h.lt_r2_a0_0⟩).val, Shape.coordLt (j ⟨0, h.lt_r2_a0_0⟩) h.size_r2_a0_0⟩ : Fin b) = c :=
      Fin.ext hc.symm
    rw [this]
  unfold Ideal.reduceIndex
  have hmin : Finset.min (Finset.image (fun i : (⟨2, ![a, b]⟩ : Shape).Idx => (i 0).val)
      (Finset.filter (fun i => ∀ i' ∈ Finset.filter (fun i => h.drop i = j) Finset.univ,
        ¬ (if ArgKind.argMin = ArgKind.argMax then x i < x i' else x i' < x i))
        (Finset.filter (fun i => h.drop i = j) Finset.univ))) = ((k.val : ℕ) : WithTop ℕ) := by
    apply le_antisymm
    · apply Finset.min_le
      refine Finset.mem_image.2 ⟨ix2 k c, ?_, rfl⟩
      simp only [Finset.mem_filter, Finset.mem_univ, true_and]
      refine ⟨(hfib _).2 ⟨k, rfl⟩, fun i hi => ?_⟩
      obtain ⟨r, rfl⟩ := (hfib _).1 hi
      simpa using hk.least r
    · apply Finset.le_min
      intro v hv
      obtain ⟨i, hi, rfl⟩ := Finset.mem_image.1 hv
      simp only [Finset.mem_filter, Finset.mem_univ, true_and] at hi
      obtain ⟨r, rfl⟩ := (hfib _).1 hi.1
      have hr := hi.2 (ix2 k c) ((hfib _).2 ⟨k, rfl⟩)
      have hr' : ¬ x (ix2 k c) < x (ix2 r c) := by simpa using hr
      have : k ≤ r := le_of_not_gt fun hlt => hr' (hk.before r hlt)
      have hv' : k.val ≤ r.val := this
      show ((k.val : ℕ) : WithTop ℕ) ≤ ((r.val : ℕ) : WithTop ℕ)
      exact_mod_cast hv'
  simp only
  rw [show ∀ u : WithTop ℕ, u = ((k.val : ℕ) : WithTop ℕ) → BitVec.ofNat 32 (Option.getD u 0) = BitVec.ofNat 32 k.val
    from fun u hu => by subst hu; rfl]
  convert hmin using 4

/-- The pair order an arg-min keeps: by value, then by the signed reading of the index. -/
def PairLe (a b : EReal × BitVec 32) : Prop := a.1 < b.1 ∨ (a.1 = b.1 ∧ a.2.toInt ≤ b.2.toInt)

theorem PairLe.rfl' (a : EReal × BitVec 32) : PairLe a a := Or.inr ⟨rfl, le_rfl⟩

theorem PairLe.trans' {a b c : EReal × BitVec 32} (h : PairLe a b) (h' : PairLe b c) : PairLe a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

theorem PairLe.antisymm' {a b : EReal × BitVec 32} (h : PairLe a b) (h' : PairLe b a) : a = b := by
  rcases h with h | ⟨h, hi⟩ <;> rcases h' with h' | ⟨h', hi'⟩
  · exact absurd h' (not_lt.mpr h.le)
  · exact absurd h (h' ▸ lt_irrefl _)
  · exact absurd h' (h ▸ lt_irrefl _)
  · exact Prod.ext h (BitVec.eq_of_toInt_eq (le_antisymm hi hi'))

/-- A step that keeps one of the two pairs, the lower one. -/
structure Keeps (f : EReal × BitVec 32 → EReal × BitVec 32 → EReal × BitVec 32) : Prop where
  one : ∀ a b, f a b = a ∨ f a b = b
  left : ∀ a b, PairLe (f a b) a
  right : ∀ a b, PairLe (f a b) b

theorem foldl_keeps {ι : Type} {f : EReal × BitVec 32 → EReal × BitVec 32 → EReal × BitVec 32} (hf : Keeps f)
    (p : ι → EReal × BitVec 32) (L : List ι) (a : EReal × BitVec 32) :
    (L.foldl (fun r n => f r (p n)) a = a ∨ ∃ n ∈ L, L.foldl (fun r n => f r (p n)) a = p n)
      ∧ PairLe (L.foldl (fun r n => f r (p n)) a) a ∧ ∀ n ∈ L, PairLe (L.foldl (fun r n => f r (p n)) a) (p n) := by
  induction L generalizing a with
  | nil => exact ⟨Or.inl rfl, PairLe.rfl' a, fun n hn => by cases hn⟩
  | cons m L ih =>
    obtain ⟨h1, h2, h3⟩ := ih (f a (p m))
    simp only [List.foldl_cons]
    refine ⟨?_, h2.trans' (hf.left _ _), fun n hn => ?_⟩
    · rcases h1 with h1 | ⟨n, hn, h1⟩
      · rw [h1]
        rcases hf.one a (p m) with e | e
        · exact Or.inl e
        · exact Or.inr ⟨m, List.mem_cons_self, e⟩
      · exact Or.inr ⟨n, List.mem_cons_of_mem _ hn, h1⟩
    · rcases List.mem_cons.1 hn with rfl | hn
      · exact h2.trans' (hf.right _ _)
      · exact h3 n hn

/-- The host's arg-min along the second axis of a matrix, indices counted along that axis, from the pair
    (above everything, 0). -/
theorem argReduce_eq {a b : Nat} (hb : b < 2 ^ 31) {t u : Shape} (h : (⟨2, ![a, b]⟩ : Shape).ReducesTo [1] t)
    (hu : 0 < u.numel) {f : EReal × BitVec 32 → EReal × BitVec 32 → EReal × BitVec 32} (hf : Keeps f)
    (x : FVec Ideal (⟨2, ![a, b]⟩ : Shape) .f32) (y : (⟨2, ![a, b]⟩ : Shape).Idx → BitVec 32)
    (hy : ∀ i, y i = BitVec.ofNat 32 (i 1).val) (ix : u.Idx → Ideal .f32) (hix : ∀ i, ix i = (⊤ : EReal))
    (iy : u.Idx → BitVec 32) (hiy : ∀ i, iy i = 0#32) (j : t.Idx) (n : Fin a)
    (hn : n.val = (j ⟨0, h.lt_r2_a1_0⟩).val) (k : Fin b)
    (hk : First (fun i => (x (ix2 n i) : EReal)) k) :
    Host.argReduce (F := Ideal) (φ := .f32) f x y ix iy h hu j = ((x (ix2 n k) : EReal), BitVec.ofNat 32 k.val) := by
  obtain rfl : y = fun i => BitVec.ofNat 32 (i 1).val := funext hy
  rw [Ideal.argReduce_eq_reduce2]
  unfold Host.reduce2
  have hfib : ∀ i, h.drop i = j ↔ ∃ r : Fin b, ix2 n r = i := by
    intro i
    rw [h.fiber_r2_a1 j i]
    have : (⟨(j ⟨0, h.lt_r2_a1_0⟩).val, Shape.coordLt (j ⟨0, h.lt_r2_a1_0⟩) h.size_r2_a1_0⟩ : Fin a) = n :=
      Fin.ext hn.symm
    rw [this]
  have hint : ∀ r : Fin b, (BitVec.ofNat 32 r.val).toInt = (r.val : ℤ) := by
    intro r
    have hr : r.val < 2 ^ 31 := lt_trans r.isLt hb
    rw [BitVec.toInt_eq_toNat_cond, BitVec.toNat_ofNat]
    have : r.val % 2 ^ 32 = r.val := Nat.mod_eq_of_lt (by omega)
    rw [this, if_pos (by omega)]
  obtain ⟨h1, h2, h3⟩ := foldl_keeps hf
    (fun m => ((x ((⟨2, ![a, b]⟩ : Shape).rowMajor.symm m) : EReal), BitVec.ofNat 32 ((⟨2, ![a, b]⟩ : Shape).rowMajor.symm m 1).val))
    ((List.finRange (⟨2, ![a, b]⟩ : Shape).numel).filter fun m => h.drop ((⟨2, ![a, b]⟩ : Shape).rowMajor.symm m) = j)
    ((ix (Shape.Idx.first hu) : EReal), iy (Shape.Idx.first hu))
  refine PairLe.antisymm' (b := ((x (ix2 n k) : EReal), BitVec.ofNat 32 k.val)) ?_ ?_
  · have := h3 ((⟨2, ![a, b]⟩ : Shape).rowMajor (ix2 n k)) (by
      simp only [List.mem_filter, List.mem_finRange, true_and, decide_eq_true_eq, Equiv.symm_apply_apply]
      exact (hfib _).2 ⟨k, rfl⟩)
    simp only [Equiv.symm_apply_apply] at this
    exact this
  · rcases h1 with h1 | ⟨m, hm, h1⟩
    · rw [h1, hix, hiy]
      by_cases ht : (x (ix2 n k) : EReal) = ⊤
      · refine Or.inr ⟨ht, ?_⟩
        have hk0 : k.val = 0 := by
          by_contra hne
          have := hk.before ⟨0, by omega⟩ (Fin.lt_def.2 (Nat.pos_of_ne_zero hne))
          simp only [ht] at this
          exact absurd this (not_lt.mpr le_top)
        simp [hk0]
      · exact Or.inl (lt_top_iff_ne_top.2 ht)
    · rw [h1]
      simp only [List.mem_filter, List.mem_finRange, true_and, decide_eq_true_eq] at hm
      obtain ⟨r, hr⟩ := (hfib _).1 hm
      simp only [← hr]
      rcases lt_or_ge k r with hlt | hge
      · rcases lt_or_eq_of_le (hk.least r) with h' | h'
        · exact Or.inl h'
        · refine Or.inr ⟨h', ?_⟩
          show (BitVec.ofNat 32 k.val).toInt ≤ (BitVec.ofNat 32 r.val).toInt
          rw [hint, hint]; exact_mod_cast hlt.le
      · rcases lt_or_eq_of_le hge with hlt | rfl
        · exact Or.inl (hk.before r hlt)
        · exact PairLe.rfl' _

/-- The second components of a family of pairs. -/
def seconds {ι : Type} (g : ι → EReal × BitVec 32) : ι → BitVec 32 := fun i => (g i).2

theorem seconds_of {ι : Type} {g : ι → EReal × BitVec 32} {i : ι} {v : EReal} {w : BitVec 32} (h : g i = (v, w)) :
    seconds g i = w := congrArg Prod.snd h

end Cert.Value
end
-- ==== Proof.Row.lean ====
module

public import proofs.«01_k».proof.Proof.Arg
public import proofs.«01_k».proof.Proof.Final
public import Idealize.ShloMosaic.Lib.IdealHost

/-!
# The kernel's row, read at a lane

One trip turns a block of 4096 rows into 4096 indices. Its payloads are cut at their intermediate arrays and
each array is read at an index.
-/

@[expose] public section

set_option maxRecDepth 16384

noncomputable section

namespace Cert.Value

open Idealize.ShloMosaic Idealize.ShloMosaic.Pointwise Idealize.SL.Sem
open Cert.KernelIdeal Cert.KernelIdeal.Gen

/-- A block's squared distances to the outer centres, centres along the first axis. -/
def rowD1 (x : FVec Ideal S1x4096x256 .f32) (w1 : FVec Ideal S64x128 .f32) (w2 : FVec Ideal S64x1 .f32) :
    FVec Ideal S64x4096 .f32 :=
  addf
    (subf
      (broadcastTo S64x4096
        (matmul dot_S1x128_S4096x128_S1x4096_1_1_0_0_n_n none (broadcast S1x128 (Scalar.ofBits .f32 0x3F800000#32))
          (mulf (extractStridedSlice S4096x128 ![0, 0] (k0_pay1 x) slices_S4096x256_o0_0_S4096x128)
            (extractStridedSlice S4096x128 ![0, 0] (k0_pay1 x) slices_S4096x256_o0_0_S4096x128))
          (constant S1x4096 .f32 0x00000000#32)) broadcasts_S1x4096_S64x4096)
      (mulf (broadcast S64x4096 (Scalar.ofBits .f32 0x40000000#32))
        (matmul dot_S64x128_S4096x128_S64x4096_1_1_0_0_n_n none w1
          (extractStridedSlice S4096x128 ![0, 0] (k0_pay1 x) slices_S4096x256_o0_0_S4096x128)
          (constant S64x4096 .f32 0x00000000#32))))
    (broadcastTo S64x4096 (shapeCast S64x1 w2 shapeCasts_S64x1_S64x1) broadcasts_S64x1_S64x4096)

theorem rowD1_apply (x : FVec Ideal S1x4096x256 .f32) (w1 : FVec Ideal S64x128 .f32) (w2 : FVec Ideal S64x1 .f32)
    (k : Fin 64) (p : Fin 4096) : rowD1 x w1 w2 (ix2 k p)
      = (∑ l : Fin 128, x (ix3 0 p ⟨l.val, by omega⟩) * x (ix3 0 p ⟨l.val, by omega⟩))
        - Ideal.ofBits FTy.f32 0x40000000#32 * (∑ l : Fin 128, x (ix3 0 p ⟨l.val, by omega⟩) * w1 (ix2 k l))
        + w2 (ix2 k 0) := by
  pointwise [rowD1, k0_pay1]
  rw [Finset.sum_congr rfl fun (l : Fin 128) _ => mul_comm (w1 (ix2 k l)) _]

/-- The block's outer choices. -/
theorem outer_apply (x : FVec Ideal S1x4096x256 .f32) (w1 : FVec Ideal S64x128 .f32) (w2 : FVec Ideal S64x1 .f32)
    (k : Fin 64) (p : Fin 4096) (hk : First (fun i => (rowD1 x w1 w2 (ix2 i p) : EReal)) k) :
    k0_pay2 (F := Ideal) x w1 w2 (ix1 p) = BitVec.ofNat 32 k.val := by
  have h := reduceIndex_eq reduces_S64x4096_S4096 (rowD1 x w1 w2) (ix1 p) p rfl k hk
  exact h

/-- Squared distances to all the inner centres, but for the row's own norm. -/
def rowD2 (w3 : FVec Ideal S512x128 .bf16) (xb : FVec Ideal S4096x128 .bf16) (w4 : FVec Ideal S512x1 .bf16) :
    FVec Ideal S512x4096 .bf16 :=
  addf
    (truncf .bf16 (matmul dot_S512x128_S4096x128_S512x4096_1_1_0_0_n_n none w3 xb (constant S512x4096 .f32 0x00000000#32))
      bitsLt_bf16_f32)
    (broadcastTo S512x4096 (shapeCast S512x1 w4 shapeCasts_S512x1_S512x1) broadcasts_S512x1_S512x4096)

theorem rowD2_apply (w3 : FVec Ideal S512x128 .bf16) (xb : FVec Ideal S4096x128 .bf16) (w4 : FVec Ideal S512x1 .bf16)
    (k : Fin 512) (p : Fin 4096) : rowD2 w3 xb w4 (ix2 k p)
      = (∑ l : Fin 128, w3 (ix2 k l) * xb (ix2 p l)) + w4 (ix2 k 0) := by
  pointwise [rowD2]

/-- Every centre outside the chosen group masked. -/
def masked (o : IVec S4096 32) (d : FVec Ideal S512x4096 .bf16) : FVec Ideal S512x4096 .bf16 :=
  select
    (cmpf .oeq
      (broadcastTo S512x4096
        (sitofp .bf16 (shrsi (iota .tc S512x1 32 [0] iota_S512x1_d0_w32) (broadcast S512x1 3#32)))
        broadcasts_S512x1_S512x4096)
      (broadcastTo S512x4096 (shapeCast S1x4096 (sitofp .bf16 o : FVec Ideal S4096 .bf16) shapeCasts_S4096_S1x4096)
        broadcasts_S1x4096_S512x4096))
    d (broadcast S512x4096 (Named.named κ "mask" 0x4980#16))

/-- The least masked value at each lane. -/
def least (d : FVec Ideal S512x4096 .bf16) : FVec Ideal S4096 .bf16 :=
  multiReduction .minimumf [0] S4096 d 0x7F80#16 reduces_S512x4096_S4096 (.inr rfl) rfl

/-- The place within its group of every centre that attains the least value, 15 elsewhere. -/
def places (d : FVec Ideal S512x4096 .bf16) : FVec Ideal S512x4096 .bf16 :=
  select
    (cmpf .oeq d (broadcastTo S512x4096 (shapeCast S1x4096 (least d) shapeCasts_S4096_S1x4096) broadcasts_S1x4096_S512x4096))
    (broadcastTo S512x4096
      (shapeCast S512x1
        (sitofp .bf16 (andi (iota .tc S512x1 32 [0] iota_S512x1_d0_w32) (broadcast S512x1 7#32)) : FVec Ideal S512x1 .bf16)
        shapeCasts_S512x1_S512x1) broadcasts_S512x1_S512x4096)
    (broadcast S512x4096 (Scalar.ofBits .bf16 0x4170#16))

theorem pay5_eq (o : IVec S4096 32) (w3 : FVec Ideal S512x128 .bf16) (xb : FVec Ideal S4096x128 .bf16)
    (w4 : FVec Ideal S512x1 .bf16) :
    k0_pay5 (F := Ideal) o w3 xb (constant S512x4096 .f32 0x00000000#32) w4
      = shapeCast S1x1x4096 (addi (muli o (broadcast S4096 8#32))
          (fptosi 32 (least (places (masked o (rowD2 w3 xb w4)))))) shapeCasts_S4096_S1x1x4096 := rfl

theorem inf_half_word : Ideal.ofBits FTy.bf16 0x7F80#16 = ⊤ := by simp [Ideal.ofBits, Ideal.ieee]

theorem fifteen_word : Ideal.ofBits FTy.bf16 0x4170#16 = ((15 : ℝ) : EReal) := by
  simp [Ideal.ofBits, Ideal.ieee, -EReal.coe_mul]; norm_num

theorem group_word : ∀ k : Fin 512, (IntOp.shrsi ArithUnit.vector (BitVec.ofNat 32 k.val) 3#32).toInt = (k.val / 8 : ℕ) := by
  decide

theorem place_word : ∀ k : Fin 512, (IntOp.andi (BitVec.ofNat 32 k.val) 7#32).toInt = (k.val % 8 : ℕ) := by
  decide

theorem outer_word : ∀ k : Fin 64, (BitVec.ofNat 32 k.val).toInt = (k.val : ℕ) := by decide

theorem mask_value : (Named.named (F := Ideal) κ "mask" (φ := .bf16) 0x4980#16 : EReal) = ⊤ := by
  have h : κ "mask" = some ⊤ := by simp [κ]
  show (κ "mask").getD _ = _
  rw [h]; rfl

theorem masked_apply (o : IVec S4096 32) (d : FVec Ideal S512x4096 .bf16) (k : Fin 512) (p : Fin 4096) (g : Fin 64)
    (ho : o (ix1 p) = BitVec.ofNat 32 g.val) :
    masked o d (ix2 k p) = if k.val / 8 = g.val then d (ix2 k p) else (⊤ : EReal) := by
  pointwise [masked]
  rw [ho]
  have hs : ∀ b : BitVec 32, (FloatOps.sitofp FTy.bf16 b : Ideal .bf16) = ((b.toInt : ℝ) : EReal) := fun _ => rfl
  rw [hs, hs, group_word, outer_word, mask_value]
  have : (((((k.val / 8 : ℕ) : ℤ) : ℝ) : EReal) = ((((g.val : ℕ) : ℤ) : ℝ) : EReal)) ↔ k.val / 8 = g.val := by
    rw [EReal.coe_eq_coe_iff]
    exact_mod_cast Iff.rfl
  simp only [this]

theorem least_apply (d : FVec Ideal S512x4096 .bf16) (p : Fin 4096) (k : Fin 512)
    (h : ∀ j, (d (ix2 k p) : EReal) ≤ d (ix2 j p)) : least d (ix1 p) = d (ix2 k p) := by
  pointwise [least]
  rw [inf_half_word]
  exact fold_min_eq (fun j => d (ix2 j p)) k h

theorem places_apply (d : FVec Ideal S512x4096 .bf16) (k : Fin 512) (p : Fin 4096) :
    places d (ix2 k p) = if (d (ix2 k p) : EReal) = least d (ix1 p) then (((k.val % 8 : ℕ) : ℝ) : EReal) else ((15 : ℝ) : EReal) := by
  pointwise [places]
  have hs : ∀ b : BitVec 32, (FloatOps.sitofp FTy.bf16 b : Ideal .bf16) = ((b.toInt : ℝ) : EReal) := fun _ => rfl
  rw [hs, place_word, fifteen_word, Int.cast_natCast]

/-- The place the kernel finds: that of the first least centre of the chosen group. -/
theorem place_found (o : IVec S4096 32) (d : FVec Ideal S512x4096 .bf16) (p : Fin 4096) (g : Fin 64)
    (ho : o (ix1 p) = BitVec.ofNat 32 g.val) (j : Fin 8)
    (hj : First (fun i : Fin 8 => (d (ix2 ⟨8 * g.val + i.val, by omega⟩ p) : EReal)) j)
    (hfin : (d (ix2 ⟨8 * g.val + j.val, by omega⟩ p) : EReal) < ⊤) :
    least (places (masked o d)) (ix1 p) = ((j.val : ℝ) : EReal) := by
  have hm : ∀ k, masked o d (ix2 k p) = if k.val / 8 = g.val then d (ix2 k p) else (⊤ : EReal) :=
    fun k => masked_apply o d k p g ho
  have hin : ∀ k : Fin 512, k.val / 8 = g.val →
      ∃ i : Fin 8, k = ⟨8 * g.val + i.val, by omega⟩ := fun k hk =>
    ⟨⟨k.val % 8, Nat.mod_lt _ (by norm_num)⟩, Fin.ext (by show k.val = 8 * g.val + k.val % 8; omega)⟩
  have hat : ∀ i : Fin 8, masked o d (ix2 (⟨8 * g.val + i.val, by omega⟩ : Fin 512) p)
      = d (ix2 (⟨8 * g.val + i.val, by omega⟩ : Fin 512) p) := fun i => by
    rw [hm, if_pos]
    show (8 * g.val + i.val) / 8 = g.val
    omega
  have hl : least (masked o d) (ix1 p) = d (ix2 (⟨8 * g.val + j.val, by omega⟩ : Fin 512) p) := by
    rw [← hat j]
    refine least_apply _ p _ fun k => ?_
    rw [hat j, hm k]
    split_ifs with hk
    · obtain ⟨i, rfl⟩ := hin k hk
      exact hj.least i
    · exact le_top
  have hpl := fun k => places_apply (masked o d) k p
  have hval : places (masked o d) (ix2 (⟨8 * g.val + j.val, by omega⟩ : Fin 512) p) = ((j.val : ℝ) : EReal) := by
    rw [hpl, hl, if_pos (hat j)]
    have : (8 * g.val + j.val) % 8 = j.val := by omega
    simp only [this]
  rw [← hval]
  refine least_apply _ p _ fun k => ?_
  rw [hval, hpl k, hl]
  split_ifs with he
  · have hk : k.val / 8 = g.val := by
      by_contra hne
      rw [hm k, if_neg hne] at he
      exact absurd he hfin.ne'
    obtain ⟨i, rfl⟩ := hin k hk
    rw [hat i] at he
    have hji : j ≤ i := le_of_not_gt fun hlt => absurd he (hj.before i hlt).ne'
    have e : (8 * g.val + i.val) % 8 = i.val := by omega
    simp only [e]
    exact_mod_cast hji
  · have : j.val ≤ 15 := by omega
    exact_mod_cast this

theorem small_int : ∀ j : Fin 8, Ideal.fptosi 32 ((j.val : ℝ) : EReal) = BitVec.ofNat 32 j.val := by
  intro j
  unfold Ideal.fptosi
  rw [Ideal.toIntClamped_coe, if_pos (by positivity), Int.floor_natCast]
  fin_cases j <;> rfl

/-- The block's result at a lane. -/
theorem row_apply (x : FVec Ideal S1x4096x256 .f32) (w1 : FVec Ideal S64x128 .f32) (w2 : FVec Ideal S64x1 .f32)
    (w3 : FVec Ideal S512x128 .bf16) (w4 : FVec Ideal S512x1 .bf16) (p : Fin 4096) (g : Fin 64)
    (hg : First (fun i => (rowD1 x w1 w2 (ix2 i p) : EReal)) g) (j : Fin 8)
    (hj : First (fun i : Fin 8 => (rowD2 (k0_pay3 (F := Ideal) w3) (k0_pay4 (F := Ideal) x) w4 (ix2 ⟨8 * g.val + i.val, by omega⟩ p) : EReal)) j)
    (hfin : (rowD2 (k0_pay3 (F := Ideal) w3) (k0_pay4 (F := Ideal) x) w4 (ix2 ⟨8 * g.val + j.val, by omega⟩ p) : EReal) < ⊤) :
    rowVal (F := Ideal) x w1 w2 w3 w4 (rowIdx p) = BitVec.ofNat 32 g.val * 8#32 + BitVec.ofNat 32 j.val := by
  have ho := outer_apply x w1 w2 g p hg
  have hp := place_found (k0_pay2 (F := Ideal) x w1 w2) (rowD2 (k0_pay3 (F := Ideal) w3) (k0_pay4 (F := Ideal) x) w4) p g ho j hj hfin
  unfold rowVal
  rw [pay5_eq]
  have hidx : rowIdx p = (ix3 0 0 p : S1x1x4096.Idx) := by funext i; match i with | ⟨0, _⟩ => rfl | ⟨1, _⟩ => rfl | ⟨2, _⟩ => rfl
  rw [hidx]
  pointwise []
  rw [ho, hp]
  exact congrArg (BitVec.ofNat 32 g.val * 8#32 + ·) (small_int j)

end Cert.Value
end
end
-- ==== Proof.Ref.lean ====
module

public import proofs.«01_k».proof.Proof.Arg
public import proofs.«01_k».proof.Proof.Gen.ReferenceIdeal
public import Idealize.ShloMosaic.Lib.Claim

/-!
# The reference, read at a row

The reference's composed term, cut at its intermediate arrays, and each array read at an index.
-/

@[expose] public section

set_option maxRecDepth 16384

noncomputable section

namespace Cert.Value

open Idealize.ShloMosaic Idealize.ShloMosaic.Pointwise Idealize.SL.Sem
open Cert.ReferenceIdeal Cert.ReferenceIdeal.Facts₀

attribute [local instance] Cert.ReferenceIdeal.Gen.facts₀

/-- Squared distances to the outer centres, as the reference forms them. -/
def refD1 (x : FVec Ideal S32768x256 .f32) (c1 : FVec Ideal S64x128 .f32) : FVec Ideal S32768x64 .f32 :=
  addf
    (subf
      (broadcastInDim S32768x64 ![0, 1] bcast_S32768x1_S32768x64_0_1
        (broadcastInDim S32768x1 ![0] bcast_S32768_S32768x1_0
          (Host.reduceAdd
            (mulf (extractStridedSlice S32768x128 ![0, 0] x slices_S32768x256_S32768x128_0_0)
              (extractStridedSlice S32768x128 ![0, 0] x slices_S32768x256_S32768x128_0_0))
            (constant S_ .f32 0x00000000#32) reducesTo_S32768x128_S32768_d1 h_S_)))
      (mulf (broadcastInDim S32768x64 ![] bcast_S_S32768x64 (constant S_ .f32 0x40000000#32))
        (Host.dotGeneral dot_S32768x128_S128x64_S32768x64_1_0_0_1_n_n none
          (extractStridedSlice S32768x128 ![0, 0] x slices_S32768x256_S32768x128_0_0)
          (transpose S128x64 [1, 0] c1 transposes_S64x128_S128x64_1_0))))
    (broadcastInDim S32768x64 ![0, 1] bcast_S1x64_S32768x64_0_1
      (broadcastInDim S1x64 ![1] bcast_S64_S1x64_1
        (Host.reduceAdd (mulf c1 c1) (constant S_ .f32 0x00000000#32) reducesTo_S64x128_S64_d1 h_S_)))

/-- The squared distance of row `n`'s first half to outer centre `k`. -/
def D1 (x : S32768x256.Idx → EReal) (c1 : S64x128.Idx → EReal) (n : Fin 32768) (k : Fin 64) : EReal :=
  (∑ l : Fin 128, x (ix2 n ⟨l.val, by omega⟩) * x (ix2 n ⟨l.val, by omega⟩))
    - Ideal.ofBits FTy.f32 0x40000000#32 * (∑ l : Fin 128, x (ix2 n ⟨l.val, by omega⟩) * c1 (ix2 k l))
    + ∑ l : Fin 128, c1 (ix2 k l) * c1 (ix2 k l)

theorem refD1_apply (x : FVec Ideal S32768x256 .f32) (c1 : FVec Ideal S64x128 .f32) (n : Fin 32768) (k : Fin 64) :
    refD1 x c1 (ix2 n k) = D1 x c1 n k := by
  pointwise [refD1]
  rfl

/-- The outer choice, as the reference makes it. -/
def refOuter (x : FVec Ideal S32768x256 .f32) (c1 : FVec Ideal S64x128 .f32) : IVec S32768 32 :=
  seconds (Host.argReduce (reducer_argmin_f32_i32 (F := Ideal)) (refD1 x c1) (iotaInDim S32768x64 32 1)
    (constant S_ .f32 0x7F800000#32) (constantI S_ 32 0#32) reducesTo_S32768x64_S32768_d1 h_S_)

theorem inf_word : Ideal.ofBits FTy.f32 0x7F800000#32 = ⊤ := by simp [Ideal.ofBits, Ideal.ieee]

theorem keeps_reducer : Keeps (reducer_argmin_f32_i32 (F := Ideal)) := by
  have key : ∀ a b : EReal × BitVec 32, reducer_argmin_f32_i32 (F := Ideal) a b
      = if a.1 < b.1 ∨ (a.1 = b.1 ∧ a.2.toInt < b.2.toInt) then a else b := by
    rintro ⟨a, i⟩ ⟨b, j⟩
    unfold reducer_argmin_f32_i32
    simp only [Ideal.cmpf_def, Ideal.cmp, Scalar.select, IntOp.ori, IntOp.andi, IntOp.cmpi]
    by_cases h1 : a < b
    · have hz : ∀ z : BitVec 1, 1#1 ||| z = 1#1 := by decide
      simp [h1, hz]
    · by_cases h2 : a = b
      · subst h2
        by_cases h3 : i.toInt < j.toInt
        · simp [h3, BitVec.slt]
        · simp [h3, BitVec.slt]
      · simp [h1, h2]
  refine ⟨fun a b => ?_, fun a b => ?_, fun a b => ?_⟩
  · rw [key]; split_ifs
    · exact Or.inl rfl
    · exact Or.inr rfl
  · rw [key]; split_ifs with h
    · exact PairLe.rfl' a
    · rcases lt_trichotomy a.1 b.1 with h' | h' | h'
      · exact absurd (Or.inl h') h
      · exact Or.inr ⟨h'.symm, not_lt.mp fun e => h (Or.inr ⟨h', e⟩)⟩
      · exact Or.inl h'
  · rw [key]; split_ifs with h
    · rcases h with h | ⟨h, e⟩
      · exact Or.inl h
      · exact Or.inr ⟨h, e.le⟩
    · exact PairLe.rfl' b

theorem refOuter_apply (x : FVec Ideal S32768x256 .f32) (c1 : FVec Ideal S64x128 .f32) (n : Fin 32768) (k : Fin 64)
    (hk : First (D1 x c1 n) k) : refOuter x c1 (ix1 n) = BitVec.ofNat 32 k.val := by
  have hk' : First (fun i => (refD1 x c1 (ix2 n i) : EReal)) k := by
    simp only [refD1_apply]
    exact hk
  have := argReduce_eq (by norm_num) reducesTo_S32768x64_S32768_d1 h_S_ keeps_reducer (refD1 x c1)
    (iotaInDim S32768x64 32 1) (fun i => rfl) (constant S_ .f32 0x7F800000#32)
    (fun i => inf_word) (constantI S_ 32 0#32) (fun i => rfl) (ix1 n) n rfl k hk'
  unfold refOuter
  exact seconds_of this

/-- The table rows the reference takes, at given outer choices. -/
def refIdx (o : IVec S32768 32) : IVec S32768x1 32 :=
  broadcastInDim S32768x1 ![0] bcast_S32768_S32768x1_0
    (select (cmpi .slt o (broadcastInDim S32768 ![] bcast_S_S32768 (constantI S_ 32 0#32)))
      (addi o (broadcastInDim S32768 ![] bcast_S_S32768 (constantI S_ 32 64#32))) o)

def refTake (c2 : FVec Ideal S64x8x128 .f32) (o : IVec S32768 32) : FVec Ideal S32768x8x128 .f32 :=
  select
    (broadcastInDim S32768x8x128 ![0] bcast_S32768_S32768x8x128_0
      (Host.reduce IntOp.andi
        (andi
          (cmpi .sge (refIdx o) (broadcastInDim S32768x1 ![] bcast_S_S32768x1 (constantI S_ 32 0#32)))
          (cmpi .sle (refIdx o)
            (broadcastInDim S32768x1 ![0, 1] bcast_S1x1_S32768x1_0_1
              (broadcastInDim S1x1 ![1] bcast_S1_S1x1_1 (constantI S1 32 63#32)))))
        (constantI S_ 1 1#1) reducesTo_S32768x1_S32768_d1 h_S_))
    (Host.gather gather_S64x8x128_S32768x1_S32768x8x128_12_0_n_n_0_1_18128 c2 (refIdx o))
    (broadcastInDim S32768x8x128 ![] bcast_S_S32768x8x128 (constant S_ .f32 0x7FC00000#32))

theorem small_words : ∀ k : Fin 64,
    (BitVec.ofNat 32 k.val).toInt.toNat = k.val ∧ BitVec.slt (BitVec.ofNat 32 k.val) 0#32 = false
      ∧ BitVec.sle 0#32 (BitVec.ofNat 32 k.val) = true ∧ BitVec.sle (BitVec.ofNat 32 k.val) 63#32 = true := by decide

theorem refIdx_apply (o : IVec S32768 32) (n : Fin 32768) (k : Fin 64) (ho : o (ix1 n) = BitVec.ofNat 32 k.val) (z : Fin 1) :
    refIdx o (ix2 n z) = BitVec.ofNat 32 k.val := by
  pointwise [refIdx]
  rw [ho]
  simp [IntOp.cmpi, Scalar.select, (small_words k).2.1]

theorem gather_apply (c2 : FVec Ideal S64x8x128 .f32) (idx : IVec S32768x1 32) (n : Fin 32768) (j : Fin 8) (l : Fin 128)
    (k : Fin 64) (hk : idx (ix2 n 0) = BitVec.ofNat 32 k.val) :
    Host.gather gather_S64x8x128_S32768x1_S32768x8x128_12_0_n_n_0_1_18128 c2 idx (ix3 n j l) = c2 (ix3 k j l) := by
  unfold Host.gather
  refine congrArg c2 (funext fun a => Fin.ext ?_)
  set d := gather_S64x8x128_S32768x1_S32768x8x128_12_0_n_n_0_1_18128 with hd
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  have hb : ∀ a, d.batchCoord (ix3 n j l) a = 0 := fun a => d.batchCoord_eq_zero _ _ List.not_mem_nil
  show d.start (ix3 n j l) idx a + d.batchCoord (ix3 n j l) a + d.offCoord (ix3 n j l) a = _
  rw [hb, Nat.add_zero]
  rcases h3 with rfl | rfl | rfl
  · rw [d.offCoord_eq_zero _ _ (fun h => ((d.mem_sKept _).1 h).1 (List.mem_singleton.2 rfl)), Nat.add_zero]
    unfold GatherDims.start
    have hm : (0 : Fin 3) ∈ d.startIndexMap := List.mem_singleton.2 rfl
    rw [dif_pos hm]
    have hsi : d.siIdx (ix3 n j l) ⟨d.startIndexMap.idxOf 0, List.idxOf_lt_length_iff.2 hm⟩ = ix2 n (0 : Fin 1) := by
      funext b
      refine Fin.ext ?_
      match b with
      | ⟨0, _⟩ => rfl
      | ⟨1, _⟩ => rfl
    rw [hsi, hk, (small_words k).1]
    show min k.val 63 = k.val
    omega
  · unfold GatherDims.start
    rw [dif_neg (show ¬ ((1 : Fin 3) ∈ d.startIndexMap) from fun h => absurd (List.mem_singleton.1 h) (by decide)),
      Nat.zero_add]
    rfl
  · unfold GatherDims.start
    rw [dif_neg (show ¬ ((2 : Fin 3) ∈ d.startIndexMap) from fun h => absurd (List.mem_singleton.1 h) (by decide)),
      Nat.zero_add]
    rfl

theorem refTake_apply (c2 : FVec Ideal S64x8x128 .f32) (o : IVec S32768 32) (n : Fin 32768) (j : Fin 8) (l : Fin 128)
    (k : Fin 64) (ho : o (ix1 n) = BitVec.ofNat 32 k.val) : refTake c2 o (ix3 n j l) = c2 (ix3 k j l) := by
  have hi := refIdx_apply o n k ho
  pointwise [refTake, gather_apply c2 (refIdx o) n j l k (hi 0)]
  simp only [hi]
  have h1 : IntOp.andi (IntOp.cmpi CmpIPredicate.sge (BitVec.ofNat 32 k.val) 0#32)
      (IntOp.cmpi CmpIPredicate.sle (BitVec.ofNat 32 k.val) 63#32) = 1#1 := by
    simp [IntOp.andi, IntOp.cmpi, (small_words k).2.2.1, (small_words k).2.2.2]
  rw [h1]
  simp [Scalar.select, IntOp.andi]

/-- Squared distances to the eight taken centres, as the reference forms them. -/
def refD2 (x : FVec Ideal S32768x256 .f32) (t : FVec Ideal S32768x8x128 .f32) : FVec Ideal S32768x8 .f32 :=
  addf
    (subf
      (broadcastInDim S32768x8 ![0, 1] bcast_S32768x1_S32768x8_0_1
        (broadcastInDim S32768x1 ![0] bcast_S32768_S32768x1_0
          (Host.reduceAdd
            (mulf (extractStridedSlice S32768x128 ![0, 128] x slices_S32768x256_S32768x128_0_128)
              (extractStridedSlice S32768x128 ![0, 128] x slices_S32768x256_S32768x128_0_128))
            (constant S_ .f32 0x00000000#32) reducesTo_S32768x128_S32768_d1 h_S_)))
      (mulf (broadcastInDim S32768x8 ![] bcast_S_S32768x8 (constant S_ .f32 0x40000000#32))
        (Host.dotGeneral dot_S32768x128_S32768x8x128_S32768x8_1_2_n_1_0_0 none
          (extractStridedSlice S32768x128 ![0, 128] x slices_S32768x256_S32768x128_0_128) t)))
    (Host.reduceAdd (mulf t t) (constant S_ .f32 0x00000000#32) reducesTo_S32768x8x128_S32768x8_d2 h_S_)

/-- The squared distance of row `n`'s second half to inner centre `j` of group `k`. -/
def D2 (x : S32768x256.Idx → EReal) (c2 : S64x8x128.Idx → EReal) (n : Fin 32768) (k : Fin 64) (j : Fin 8) : EReal :=
  (∑ l : Fin 128, x (ix2 n ⟨128 + l.val, by omega⟩) * x (ix2 n ⟨128 + l.val, by omega⟩))
    - Ideal.ofBits FTy.f32 0x40000000#32 * (∑ l : Fin 128, x (ix2 n ⟨128 + l.val, by omega⟩) * c2 (ix3 k j l))
    + ∑ l : Fin 128, c2 (ix3 k j l) * c2 (ix3 k j l)

theorem refD2_apply (x : FVec Ideal S32768x256 .f32) (t : FVec Ideal S32768x8x128 .f32) (c2 : FVec Ideal S64x8x128 .f32)
    (n : Fin 32768) (k : Fin 64) (j : Fin 8) (ht : ∀ l, t (ix3 n j l) = c2 (ix3 k j l)) :
    refD2 x t (ix2 n j) = D2 x c2 n k j := by
  pointwise [refD2]
  simp only [ht]
  rfl

/-- The inner choice, as the reference makes it. -/
def refInner (x : FVec Ideal S32768x256 .f32) (t : FVec Ideal S32768x8x128 .f32) : IVec S32768 32 :=
  seconds (Host.argReduce (reducer_argmin_f32_i32 (F := Ideal)) (refD2 x t) (iotaInDim S32768x8 32 1)
    (constant S_ .f32 0x7F800000#32) (constantI S_ 32 0#32) reducesTo_S32768x8_S32768_d1 h_S_)

theorem refInner_apply (x : FVec Ideal S32768x256 .f32) (t : FVec Ideal S32768x8x128 .f32) (c2 : FVec Ideal S64x8x128 .f32)
    (n : Fin 32768) (k : Fin 64) (ht : ∀ j l, t (ix3 n j l) = c2 (ix3 k j l)) (j : Fin 8)
    (hj : First (D2 x c2 n k) j) : refInner x t (ix1 n) = BitVec.ofNat 32 j.val := by
  have hj' : First (fun i => (refD2 x t (ix2 n i) : EReal)) j := by
    simp only [fun i => refD2_apply x t c2 n k i (ht i)]
    exact hj
  have := argReduce_eq (by norm_num) reducesTo_S32768x8_S32768_d1 h_S_ keeps_reducer (refD2 x t)
    (iotaInDim S32768x8 32 1) (fun i => rfl) (constant S_ .f32 0x7F800000#32)
    (fun i => inf_word) (constantI S_ 32 0#32) (fun i => rfl) (ix1 n) n rfl j hj'
  unfold refInner
  exact seconds_of this

/-- The reference's result. -/
def refOut (x : FVec Ideal S32768x256 .f32) (c1 : FVec Ideal S64x128 .f32) (c2 : FVec Ideal S64x8x128 .f32) :
    IVec S32768 32 :=
  addi (muli (refOuter x c1) (broadcastInDim S32768 ![] bcast_S_S32768 (constantI S_ 32 8#32)))
    (refInner x (refTake c2 (refOuter x c1)))

theorem refOut_apply (x : FVec Ideal S32768x256 .f32) (c1 : FVec Ideal S64x128 .f32) (c2 : FVec Ideal S64x8x128 .f32)
    (n : Fin 32768) (k : Fin 64) (hk : First (D1 x c1 n) k) (j : Fin 8) (hj : First (D2 x c2 n k) j) :
    refOut x c1 c2 (ix1 n) = BitVec.ofNat 32 k.val * 8#32 + BitVec.ofNat 32 j.val := by
  have ho := refOuter_apply x c1 n k hk
  have hi := refInner_apply x (refTake c2 (refOuter x c1)) c2 n k
    (fun j l => refTake_apply c2 (refOuter x c1) n j l k ho) j hj
  pointwise [refOut]
  rw [ho, hi]
  rfl

end Cert.Value
end
end
-- ==== Proof.Value.lean ====
module

public import proofs.«01_k».proof.Proof.Row
public import proofs.«01_k».proof.Proof.Ref

/-!
# The kernel's result is the reference's

The kernel's operands are read at an index, so that a block's distances become those of the rows it holds.
-/

@[expose] public section

set_option maxRecDepth 16384

noncomputable section

namespace Cert.Value

open Idealize.ShloMosaic Idealize.ShloMosaic.Pointwise Idealize.SL.Sem
open Cert.KernelIdeal Cert.KernelIdeal.Gen

theorem c2Rows_apply (w : FVec Ideal S64x8x128 .f32) (g : Fin 64) (j : Fin 8) (l : Fin 128) :
    c2Rows (F := Ideal) w (ix2 ⟨8 * g.val + j.val, by omega⟩ l) = w (ix3 g j l) := by
  pointwise [c2Rows]

theorem n1Col_apply (w : FVec Ideal S64x128 .f32) (k : Fin 64) :
    n1Col (F := Ideal) w (ix2 k 0) = ∑ l : Fin 128, w (ix2 k l) * w (ix2 k l) := by
  pointwise [n1Col]

theorem scaled_apply (w : FVec Ideal S64x8x128 .f32) (k : Fin 512) (l : Fin 128) :
    k0_pay3 (c2Scaled (F := Ideal) w) (ix2 k l) = Ideal.ofBits .f32 0xC0000000#32 * c2Rows (F := Ideal) w (ix2 k l) := by
  pointwise [k0_pay3, c2Scaled]

theorem n2Col_apply (w : FVec Ideal S64x8x128 .f32) (k : Fin 512) :
    n2Col (F := Ideal) w (ix2 k 0) = ∑ l : Fin 128, c2Rows (F := Ideal) w (ix2 k l) * c2Rows (F := Ideal) w (ix2 k l) := by
  pointwise [n2Col]

theorem second_apply (x : FVec Ideal S1x4096x256 .f32) (p : Fin 4096) (l : Fin 128) :
    k0_pay4 (F := Ideal) x (ix2 p l) = x (ix3 0 p ⟨128 + l.val, by omega⟩) := by
  pointwise [k0_pay4, k0_pay1]

theorem rowsOf_apply (c : Dev nD) (fx : FVec Ideal S32768x256 .f32) (b : Fin 8) (p : Fin 4096) (l : Fin 256) :
    rowsOf (F := Ideal) c fx b (ix3 0 p l) = fx (ix2 ⟨4096 * b.val + p.val, by omega⟩ l) := by
  have hi : ∀ h, Shape.reshapeEquiv (s := S4096x256) (s' := S1x4096x256) h (ix3 0 p l) = ix2 p l := fun h => by pointwise []
  unfold rowsOf
  have e := hi squeezes_S1x4096x256_S4096x256.numel_eq.symm
  refine (congrArg ((xBlk b).view.read (Elt Ideal) fx) e).trans ?_
  refine (View.read_apply ..).trans ?_
  refine congrArg fx (funext fun a => Fin.ext ?_)
  match a with
  | ⟨0, _⟩ => exact congrArg (4096 * b.val + ·) (Nat.one_mul _)
  | ⟨1, _⟩ => exact (congrArg (_ + ·) (Nat.one_mul _)).trans (Nat.zero_add _)

theorem result_apply (c : Dev nD) (y : Fin 8 → Vec Ideal S1x1x4096 .i32) (b : Fin 8) (p : Fin 4096) :
    (shapeCast S32768 (show Vec Ideal S8x1x4096 .i32 from allRows c y) shapeCasts_S8x1x4096_S32768)
      (ix1 ⟨4096 * b.val + p.val, by omega⟩) = y b (rowIdx p) := by
  pointwise []
  rfl

/-- The kernel's own score of inner centre `j` of group `k`: the squared distance without the row's norm. -/
def E2 (x : S32768x256.Idx → EReal) (c2 : S64x8x128.Idx → EReal) (n : Fin 32768) (k : Fin 64) (j : Fin 8) : EReal :=
  (∑ l : Fin 128, Ideal.ofBits FTy.f32 0xC0000000#32 * c2 (ix3 k j l) * x (ix2 n ⟨128 + l.val, by omega⟩))
    + ∑ l : Fin 128, c2 (ix3 k j l) * c2 (ix3 k j l)

theorem rowD1_value (c : Dev nD) (x : FVec Ideal S32768x256 .f32) (c1 : FVec Ideal S64x128 .f32) (b : Fin 8)
    (p : Fin 4096) (k : Fin 64) :
    rowD1 (rowsOf (F := Ideal) c x b) c1 (n1Col (F := Ideal) c1) (ix2 k p) = D1 x c1 ⟨4096 * b.val + p.val, by omega⟩ k := by
  rw [rowD1_apply, n1Col_apply]
  simp only [rowsOf_apply]
  rfl

theorem rowD2_value (c : Dev nD) (x : FVec Ideal S32768x256 .f32) (c2 : FVec Ideal S64x8x128 .f32) (b : Fin 8)
    (p : Fin 4096) (k : Fin 64) (j : Fin 8) :
    rowD2 (k0_pay3 (F := Ideal) (c2Scaled (F := Ideal) c2)) (k0_pay4 (F := Ideal) (rowsOf (F := Ideal) c x b))
      (n2Col (F := Ideal) c2) (ix2 ⟨8 * k.val + j.val, by omega⟩ p) = E2 x c2 ⟨4096 * b.val + p.val, by omega⟩ k j := by
  rw [rowD2_apply, n2Col_apply]
  simp only [second_apply, scaled_apply, rowsOf_apply, c2Rows_apply]
  rfl

theorem two_word : Ideal.ofBits FTy.f32 0x40000000#32 = ((2 : ℝ) : EReal) := by
  simp [Ideal.ofBits, Ideal.ieee, -EReal.coe_mul]; norm_num

theorem minus_two_word : Ideal.ofBits FTy.f32 0xC0000000#32 = ((-2 : ℝ) : EReal) := by
  simp [Ideal.ofBits, Ideal.ieee, -EReal.coe_mul]; norm_num

theorem sum_coe {n : Nat} (f : Fin n → ℝ) : ∑ l, ((f l : ℝ) : EReal) = ((∑ l, f l : ℝ) : EReal) :=
  (map_sum (⟨⟨Real.toEReal, EReal.coe_zero⟩, EReal.coe_add⟩ : ℝ →+ EReal) f Finset.univ).symm

/-- On reals, the two scores of a row differ by the row's norm. -/
theorem scores (x : S32768x256.Idx → EReal) (c2 : S64x8x128.Idx → EReal) (n : Fin 32768)
    (u : Fin 128 → ℝ) (hu : ∀ l : Fin 128, x (ix2 n ⟨128 + l.val, by omega⟩) = u l)
    (v : Fin 64 → Fin 8 → Fin 128 → ℝ) (hv : ∀ k j l, c2 (ix3 k j l) = v k j l) :
    ∃ (s : ℝ) (e : Fin 64 → Fin 8 → ℝ), (∀ k j, E2 x c2 n k j = e k j) ∧ ∀ k j, D2 x c2 n k j = ((s + e k j : ℝ) : EReal) := by
  refine ⟨∑ l, u l * u l, fun k j => (∑ l, -2 * v k j l * u l) + ∑ l, v k j l * v k j l, fun k j => ?_, fun k j => ?_⟩
  · unfold E2
    simp only [hu, hv, minus_two_word, ← EReal.coe_mul, sum_coe, ← EReal.coe_add]
  · unfold D2
    simp only [hu, hv, two_word, ← EReal.coe_mul, sum_coe, ← EReal.coe_sub, ← EReal.coe_add]
    congr 1
    rw [Finset.mul_sum, ← add_assoc, sub_eq_add_neg, ← Finset.sum_neg_distrib]
    congr 2
    exact Finset.sum_congr rfl fun l _ => by ring

/-- A row's result is the reference's, the second layer's operands finite. -/
theorem row_value (c : Dev nD) (x : FVec Ideal S32768x256 .f32) (c1 : FVec Ideal S64x128 .f32) (c2 : FVec Ideal S64x8x128 .f32)
    (hx : ∀ (n : Fin 32768) (l : Fin 128), ∃ r : ℝ, x (ix2 n ⟨128 + l.val, by omega⟩) = (r : EReal))
    (hc : ∀ k j l, ∃ r : ℝ, c2 (ix3 k j l) = (r : EReal)) (b : Fin 8) (p : Fin 4096) :
    refOut x c1 c2 (ix1 ⟨4096 * b.val + p.val, by omega⟩) = rowVal (F := Ideal) (rowsOf (F := Ideal) c x b) c1
      (n1Col (F := Ideal) c1) (c2Scaled (F := Ideal) c2) (n2Col (F := Ideal) c2) (rowIdx p) := by
  choose u hu using hx
  choose v hv using hc
  obtain ⟨s, e, hE, hD⟩ := scores x c2 ⟨4096 * b.val + p.val, by omega⟩ (u _) (hu _) v hv
  obtain ⟨k, hk⟩ := exists_first (D1 x c1 ⟨4096 * b.val + p.val, by omega⟩)
  obtain ⟨j, hj⟩ := exists_first (D2 x c2 ⟨4096 * b.val + p.val, by omega⟩ k)
  have hj' : First (E2 x c2 ⟨4096 * b.val + p.val, by omega⟩ k) j := hj.congr fun i i' => by
    rw [hD, hD, hE, hE, EReal.coe_le_coe_iff, EReal.coe_le_coe_iff, add_le_add_iff_left]
  rw [refOut_apply x c1 c2 _ k hk j hj]
  refine (row_apply _ _ _ _ _ p k ?_ j ?_ ?_).symm
  · simp only [rowD1_value]
    exact hk
  · simp only [rowD2_value]
    exact hj'
  · rw [rowD2_value, hE]
    exact EReal.coe_lt_top _

/-- The kernel's result is the reference's, the second layer's operands finite. -/
theorem kernel_value (c : Dev nD) (x : FVec Ideal S32768x256 .f32) (c1 : FVec Ideal S64x128 .f32) (c2 : FVec Ideal S64x8x128 .f32)
    (hx : ∀ (n : Fin 32768) (l : Fin 128), ∃ r : ℝ, x (ix2 n ⟨128 + l.val, by omega⟩) = (r : EReal))
    (hc : ∀ k j l, ∃ r : ℝ, c2 (ix3 k j l) = (r : EReal)) (y : Fin 8 → Vec Ideal S1x1x4096 .i32)
    (hy : ∀ b, y b = rowVal (F := Ideal) (rowsOf (F := Ideal) c x b) c1 (n1Col (F := Ideal) c1) (c2Scaled (F := Ideal) c2) (n2Col (F := Ideal) c2)) :
    refOut x c1 c2 = shapeCast S32768 (show Vec Ideal S8x1x4096 .i32 from allRows c y) shapeCasts_S8x1x4096_S32768 := by
  funext i
  have hidx : ∃ (b : Fin 8) (p : Fin 4096), i = ix1 (⟨4096 * b.val + p.val, by omega⟩ : Fin 32768) := by
    have hi : (i 0).val < 32768 := (i 0).isLt
    refine ⟨⟨(i 0).val / 4096, by omega⟩, ⟨(i 0).val % 4096, by omega⟩, ?_⟩
    funext a
    match a with
    | ⟨0, _⟩ => exact Fin.ext (Nat.div_add_mod _ _).symm
  obtain ⟨b, p, rfl⟩ := hidx
  exact (row_value c x c1 c2 hx hc b p).trans
    ((congrFun (hy b) (rowIdx p)).symm.trans (result_apply c y b p).symm)

end Cert.Value
end
end
-- ==== Proof.Pre.lean ====
module

public import proofs.«01_k».proof.Pre_separated
public import Idealize.ShloMosaic.Lib.Claim
public import Idealize.ShloMosaic.Lib.IdealHost
public import Idealize.ShloMosaic.Lib.Pointwise
public import Idealize.ShloMosaic.Lib.ReduceAll
public import Idealize.ShloMosaic.Lib.Affine

/-!
# What the precondition says of the second layer

Every coordinate the second layer reads is a real number.
-/

@[expose] public section

set_option maxRecDepth 16384

noncomputable section

namespace Cert.Value

open Idealize.ShloMosaic Idealize.ShloMosaic.Pointwise Idealize.SL.Sem
open Cert.Pre_separated

/-- A value of absolute value below infinity is a real number. -/
theorem real_of_abs (a : EReal)
    (h : BitVec.ofBool (decide ((FloatOps.absf (F := Ideal) (φ := .f32) a : EReal) < Ideal.ofBits FTy.f32 0x7F800000#32)) = 1#1) :
    ∃ r : ℝ, a = (r : EReal) := by
  have hw : Ideal.ofBits FTy.f32 0x7F800000#32 = ⊤ := by simp [Ideal.ofBits, Ideal.ieee]
  have hlt : max a (-a) < ⊤ := by
    by_contra hn
    rw [hw] at h
    exact absurd (h.symm.trans (congrArg BitVec.ofBool (decide_eq_false hn))) (by decide)
  induction a using EReal.rec with
  | bot => simp at hlt
  | top => simp at hlt
  | coe r => exact ⟨r, rfl⟩

/-- Under the precondition, the second half of every row and every inner centre are real. -/
theorem finite_of_separated [Facts] (x : FVec Ideal S32768x256 .f32) (c1 : FVec Ideal S64x128 .f32)
    (c2 : FVec Ideal S64x8x128 .f32) (h : fn x c1 c2 = fun _ => 1#1) :
    (∀ (n : Fin 32768) (l : Fin 128), ∃ r : ℝ, x (ix2 n ⟨128 + l.val, by omega⟩) = (r : EReal))
      ∧ ∀ k j l, ∃ r : ℝ, c2 (ix3 k j l) = (r : EReal) := by
  have h0 := congrFun h ix0
  dsimp only [fn, fn_part1] at h0
  obtain ⟨-, h2⟩ := IntOp.andi_eq_one.1 h0
  obtain ⟨hx, hc⟩ := IntOp.andi_eq_one.1 h2
  refine ⟨fun n l => ?_, fun k j l => ?_⟩
  · have := Host.reduce_andi_all _ _ _ _ _ hx (ix2 n l)
    pointwise [] at this
    exact real_of_abs _ this
  · have := Host.reduce_andi_all _ _ _ _ _ hc (ix3 k j l)
    pointwise [] at this
    exact real_of_abs _ this

end Cert.Value
end
end
-- ==== Proof.RefRun.lean ====
module

public import proofs.«01_k».proof.Defs
public import proofs.«01_k».proof.Proof.Gen.ReferenceIdeal
public import proofs.«01_k».proof.Proof.Ref
public import Idealize.ShloMosaic.Lib.Claim

/-!
# What the reference leaves

Its result is `refOut`, cut at the arrays that the module `Ref` names. The reductions over whole arrays stay folded.
-/

@[expose] public section

set_option maxRecDepth 16384

noncomputable section

namespace Cert.Proof

open Idealize.ShloMosaic Idealize.SL.Sem

attribute [local irreducible] Host.argReduce

/-- The reference ends with its result in place and its arguments as they were. -/
theorem reference_run (m : (ℓ : Loc Cert.ReferenceIdeal.nD Cert.ReferenceIdeal.τ Cert.ReferenceIdeal.sig) → Buf (Elt Ideal) ℓ) (g : Dev Cert.ReferenceIdeal.nD → PrngReg)
    (v : Dev Cert.ReferenceIdeal.nD → Cert.ReferenceIdeal.S32768.Idx → BitVec 32)
    (hv : ∀ c : Dev Cert.ReferenceIdeal.nD, Cert.Value.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) = v c) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v32) = v c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  hlo_run
  refine Eq.trans ?_ (hv c)
  simp only [StableHlo.TRef.ofBuf_toBuf]
  unfold Cert.Value.refOut Cert.Value.refInner Cert.Value.refTake Cert.Value.refOuter Cert.Value.refIdx Cert.Value.seconds
  unfold Cert.Value.refD2 Cert.Value.refD1
  have of_main_v15 : ∀ (h1 h2 h3) (w), (StableHlo.TRef.of ReferenceIdeal.main_v15 h1 h2 h3 : StableHlo.TRef ReferenceIdeal.sig _).ofBuf (Val := Elt Ideal) w = w := fun _ _ _ _ => rfl
  have of_main_v16 : ∀ (h1 h2 h3) (w), (StableHlo.TRef.of ReferenceIdeal.main_v16 h1 h2 h3 : StableHlo.TRef ReferenceIdeal.sig _).ofBuf (Val := Elt Ideal) w = w := fun _ _ _ _ => rfl
  have of_main_v17 : ∀ (h1 h2 h3) (w), (StableHlo.TRef.of ReferenceIdeal.main_v17 h1 h2 h3 : StableHlo.TRef ReferenceIdeal.sig _).ofBuf (Val := Elt Ideal) w = w := fun _ _ _ _ => rfl
  have of_main_arg2 : ∀ (h1 h2 h3) (w), (StableHlo.TRef.of ReferenceIdeal.main_arg2 h1 h2 h3 : StableHlo.TRef ReferenceIdeal.sig _).ofBuf (Val := Elt Ideal) w = w := fun _ _ _ _ => rfl
  have of_main_v28 : ∀ (h1 h2 h3) (w), (StableHlo.TRef.of ReferenceIdeal.main_v28 h1 h2 h3 : StableHlo.TRef ReferenceIdeal.sig _).ofBuf (Val := Elt Ideal) w = w := fun _ _ _ _ => rfl
  have of_main_v29 : ∀ (h1 h2 h3) (w), (StableHlo.TRef.of ReferenceIdeal.main_v29 h1 h2 h3 : StableHlo.TRef ReferenceIdeal.sig _).ofBuf (Val := Elt Ideal) w = w := fun _ _ _ _ => rfl
  have to_main_v15 : ∀ (h1 h2 h3) (w), (StableHlo.TRef.of ReferenceIdeal.main_v15 h1 h2 h3 : StableHlo.TRef ReferenceIdeal.sig _).toBuf (Val := Elt Ideal) w = w := fun _ _ _ _ => rfl
  have to_main_v16 : ∀ (h1 h2 h3) (w), (StableHlo.TRef.of ReferenceIdeal.main_v16 h1 h2 h3 : StableHlo.TRef ReferenceIdeal.sig _).toBuf (Val := Elt Ideal) w = w := fun _ _ _ _ => rfl
  have to_main_v17 : ∀ (h1 h2 h3) (w), (StableHlo.TRef.of ReferenceIdeal.main_v17 h1 h2 h3 : StableHlo.TRef ReferenceIdeal.sig _).toBuf (Val := Elt Ideal) w = w := fun _ _ _ _ => rfl
  have to_main_arg2 : ∀ (h1 h2 h3) (w), (StableHlo.TRef.of ReferenceIdeal.main_arg2 h1 h2 h3 : StableHlo.TRef ReferenceIdeal.sig _).toBuf (Val := Elt Ideal) w = w := fun _ _ _ _ => rfl
  have to_main_v28 : ∀ (h1 h2 h3) (w), (StableHlo.TRef.of ReferenceIdeal.main_v28 h1 h2 h3 : StableHlo.TRef ReferenceIdeal.sig _).toBuf (Val := Elt Ideal) w = w := fun _ _ _ _ => rfl
  have to_main_v29 : ∀ (h1 h2 h3) (w), (StableHlo.TRef.of ReferenceIdeal.main_v29 h1 h2 h3 : StableHlo.TRef ReferenceIdeal.sig _).toBuf (Val := Elt Ideal) w = w := fun _ _ _ _ => rfl
  simp only [of_main_v15, of_main_v16, of_main_v17, of_main_arg2, of_main_v28, of_main_v29, to_main_v15, to_main_v16, to_main_v17, to_main_arg2, to_main_v28, to_main_v29]

end Cert.Proof
end
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.Pre_separated
public import proofs.«01_k».proof.Proof.Final
public import proofs.«01_k».proof.Proof.Value
public import proofs.«01_k».proof.Proof.Pre
public import proofs.«01_k».proof.Proof.RefRun
public import Idealize.ShloMosaic.Lib.Claim

@[expose] public section

set_option maxRecDepth 16384

noncomputable section

namespace Cert.Proof

open Idealize.ShloMosaic Idealize.SL.Sem

/-- A named constant read at its own pattern: the printed program's constant. -/
local instance namedBits : Named Bits := ⟨fun _ _ {φ} bits => Scalar.ofBits φ bits⟩

/-- The two programs have the same body. -/
theorem bodies_eq : @Cert.Kernel.defs₀ Bits _ Cert.Kernel.Gen.facts = @Cert.KernelIdeal.defs₀ Bits _ _ Cert.KernelIdeal.Gen.facts := by
  unfold Cert.Kernel.defs₀ Cert.KernelIdeal.defs₀
  refine congrArg Defs.onTc (funext fun l => funext fun a => ?_)
  match l, a with
  | ⟨0, _⟩, (t, s) => rfl

theorem tables_eq : @Cert.Kernel.defs Bits _ Cert.Kernel.Gen.facts = @Cert.KernelIdeal.defs Bits _ _ Cert.KernelIdeal.Gen.facts :=
  congrArg (Pipeline.defs (Cert.KernelIdeal.pcfgs (F := Bits))) bodies_eq

theorem frame_kernel : Cert.quiescent_Kernel (hKernel := Cert.Kernel.Gen.facts) := fun m ρ _ => by
  have h := Cert.KernelIdeal.Gen.run_frame (F := Bits) m ρ
  rw [← tables_eq] at h
  exact h

theorem frame_kernel_pre : Cert.quiescent_Kernel_pre_separated (hKernel := Cert.Kernel.Gen.facts) (hPre_separated := Cert.Pre_separated.Gen.facts) :=
  fun m ρ _ => frame_kernel m ρ trivial

theorem frame_ideal : Cert.quiescent_KernelIdeal (hKernelIdeal := Cert.KernelIdeal.Gen.facts) (hPre_separated := Cert.Pre_separated.Gen.facts) :=
  fun m ρ _ => Cert.KernelIdeal.Gen.run_frame (F := Ideal) m ρ

theorem reference_args (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  hlo_run

theorem frame_reference : Cert.quiescent_ReferenceIdeal (hReferenceIdeal := Cert.ReferenceIdeal.Gen.facts) := by
  intro m g hpre
  exact (θ_run (Cert.ReferenceIdeal.defs (F := Ideal)) _ _).mono
    (fun r h => ⟨h, Idealize.ShloMosaic.sem_eq_zero_of_no_sems (by decide) r.2⟩) (reference_args m g)

theorem mask_named : Cert.preserves_Kernel_KernelIdeal := by
  have h : Cert.KernelIdeal.κ "mask" = some ⊤ := by simp [Cert.KernelIdeal.κ]
  have hn : (Named.named (F := Ideal) Cert.KernelIdeal.κ "mask" (φ := .bf16) 0x4980#16 : Ideal .bf16) = (⊤ : EReal) := by
    show (Cert.KernelIdeal.κ "mask").getD _ = _
    rw [h]; rfl
  exact ⟨h, fun s => funext fun _ => hn, hn⟩

/-- From equal arguments that the precondition admits, the two results are equal. -/
theorem algebraic : Cert.algebraic_KernelIdeal_ReferenceIdeal (hKernelIdeal := Cert.KernelIdeal.Gen.facts)
    (hReferenceIdeal := Cert.ReferenceIdeal.Gen.facts) (hPre_separated := Cert.Pre_separated.Gen.facts) := by
  intro m g m' g' hpre hargs
  refine ⟨_, (θ_run (Cert.KernelIdeal.defs (F := Ideal)) _ _).mono (fun r h => h.1) (Cert.KernelIdeal.Gen.run_main (F := Ideal) m g),
    reference_run m' g' _ fun c => ?_⟩
  obtain ⟨h0, h1, h2⟩ := hargs c
  rw [h0, h1, h2]
  letI := Cert.Pre_separated.Gen.facts
  obtain ⟨hx, hc⟩ := Cert.Value.finite_of_separated _ _ _ (hpre c)
  exact Cert.Value.kernel_value c _ _ _ hx hc _ (Cert.KernelIdeal.Gen.rowAt_eq m c)

theorem claim : Cert.Claim :=
  ⟨Cert.Kernel.Gen.facts, Cert.KernelIdeal.Gen.facts, Cert.ReferenceIdeal.Gen.facts, Cert.Pre_separated.Gen.facts,
    frame_kernel, frame_kernel_pre, frame_ideal, frame_reference, fun m g _ => frame_reference m g trivial, mask_named, algebraic⟩

end Cert.Proof

end
